-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S16384 : Shape := ⟨1, ![16384]⟩
abbrev S1000x128 : Shape := ⟨2, ![1000, 128]⟩
abbrev S2048x128 : Shape := ⟨2, ![2048, 128]⟩
abbrev S1000x2048 : Shape := ⟨2, ![1000, 2048]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : IVec S16384 32) (main_arg2 : FVec F S1000x128 .f32) (main_arg3 : FVec F S1000x128 .f32) (main_arg4 : FVec F S2048x128 .f32) (main_arg5 : FVec F S1000x2048 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_v7 : IVec S16384 1 := andi main_v4 main_v6
  let main_c_2 : IVec S_ 32 := constantI S_ 32 1000#32
  let main_v8 : IVec S16384 32 := broadcastInDim S16384 ![] bcast_S_S16384 main_c_2
  let main_v9 : IVec S16384 1 := cmpi .slt main_arg1 main_v8
  let main_v10 : IVec S16384 1 := andi main_v7 main_v9
  main_v10
-- ==== Kernel.lean ====
abbrev S16384 : Shape := ⟨1, ![16384]⟩
abbrev S1000x128 : Shape := ⟨2, ![1000, 128]⟩
abbrev S2048x128 : Shape := ⟨2, ![2048, 128]⟩
abbrev S1000x2048 : Shape := ⟨2, ![1000, 2048]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S12288x128 : Shape := ⟨2, ![12288, 128]⟩
abbrev S384 : Shape := ⟨1, ![384]⟩
abbrev S1000x16384 : Shape := ⟨2, ![1000, 16384]⟩
abbrev S1024x128 : Shape := ⟨2, ![1024, 128]⟩
abbrev S1000x1024 : Shape := ⟨2, ![1000, 1024]⟩
abbrev S1024x2048 : Shape := ⟨2, ![1024, 2048]⟩
abbrev S16384x1000 : Shape := ⟨2, ![16384, 1000]⟩

abbrev nBuf : Table → Nat
  | .hbm => 15
  | .local .tc .vmem => 16
  | .local .scVector .vmem => 8
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000x128, .f32⟩
  | .hbm, ⟨3, _⟩ => ⟨S1000x128, .f32⟩
  | .hbm, ⟨4, _⟩ => ⟨S2048x128, .f32⟩
  | .hbm, ⟨5, _⟩ => ⟨S1000x2048, .f32⟩
  | .hbm, ⟨6, _⟩ => ⟨S2048x128, .bf16⟩
  | .hbm, ⟨7, _⟩ => ⟨S1000x2048, .bf16⟩
  | .hbm, ⟨8, _⟩ => ⟨S4096x128, .f32⟩
  | .hbm, ⟨9, _⟩ => ⟨S4096x128, .f32⟩
  | .hbm, ⟨10, _⟩ => ⟨S12288x128, .f32⟩
  | .hbm, ⟨11, _⟩ => ⟨S12288x128, .f32⟩
  | .hbm, ⟨12, _⟩ => ⟨S1000x16384, .f32⟩
  | .hbm, ⟨13, _⟩ => ⟨S1000x16384, .f32⟩
  | .hbm, ⟨14, _⟩ => ⟨S16384x1000, .f32⟩
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S1024x128, .f32⟩
  | .local .tc .vmem, ⟨4, _⟩ => ⟨S2048x128, .bf16⟩
  | .local .tc .vmem, ⟨5, _⟩ => ⟨S1000x2048, .bf16⟩
  | .local .tc .vmem, ⟨6, _⟩ => ⟨S1000x1024, .f32⟩
  | .local .tc .vmem, ⟨7, _⟩ => ⟨S1000x1024, .f32⟩
  | .local .tc .vmem, ⟨8, _⟩ => ⟨S1024x128, .f32⟩
  | .local .tc .vmem, ⟨9, _⟩ => ⟨S1024x128, .f32⟩
  | .local .tc .vmem, ⟨10, _⟩ => ⟨S1024x128, .f32⟩
  | .local .tc .vmem, ⟨11, _⟩ => ⟨S1024x128, .f32⟩
  | .local .tc .vmem, ⟨12, _⟩ => ⟨S2048x128, .bf16⟩
  | .local .tc .vmem, ⟨13, _⟩ => ⟨S1000x2048, .bf16⟩
  | .local .tc .vmem, ⟨14, _⟩ => ⟨S1000x1024, .f32⟩
  | .local .tc .vmem, ⟨15, _⟩ => ⟨S1000x1024, .f32⟩
  | .local .scVector .vmem, ⟨0, _⟩ => ⟨S128, .i32⟩
  | .local .scVector .vmem, ⟨1, _⟩ => ⟨S128, .i32⟩
  | .local .scVector .vmem, ⟨2, _⟩ => ⟨S128x128, .f32⟩
  | .local .scVector .vmem, ⟨3, _⟩ => ⟨S128x128, .f32⟩
  | .local .scVector .vmem, ⟨4, _⟩ => ⟨S384, .i32⟩
  | .local .scVector .vmem, ⟨5, _⟩ => ⟨S384, .i32⟩
  | .local .scVector .vmem, ⟨6, _⟩ => ⟨S128x128, .f32⟩
  | .local .scVector .vmem, ⟨7, _⟩ => ⟨S128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v2_0_scv : Ref sig .scVector := ⟨.hbm, 8, rfl⟩
abbrev main_v2_1_scv : Ref sig .scVector := ⟨.hbm, 9, rfl⟩
abbrev main_v3_0_scv : Ref sig .scVector := ⟨.hbm, 10, rfl⟩
abbrev main_v3_1_scv : Ref sig .scVector := ⟨.hbm, 11, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg4_1 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg1_1 : Ref sig .tc := ⟨.vmem, 11, rfl⟩
abbrev cc3_stg2_0 : Ref sig .tc := ⟨.vmem, 12, rfl⟩
abbrev cc3_stg3_0 : Ref sig .tc := ⟨.vmem, 13, rfl⟩
abbrev cc3_stg4_0 : Ref sig .tc := ⟨.vmem, 14, rfl⟩
abbrev cc3_stg4_1 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c0_i32 v2
  ![v3.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_1 : BitVec 32 := 0#32
  let v5 : BitVec 32 := Scalar.addi v2 c0_i32_1
  let c0_i32_11 : BitVec 32 := 0#32
  ![v5.toNat, 0]
abbrev grid1 : Pipeline.Grid := ⟨2, ![2, 16], ![false, false]⟩

def k1_off1 (i : grid1.Coords) : Fin 1 → Nat :=
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let v3 : BitVec 32 := Scalar.addi c4096_i32 v2
  ![v3.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let v5 : BitVec 32 := Scalar.addi v2 c0_i32
  let c0_i32_10 : BitVec 32 := 0#32
  ![v5.toNat, 0]
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1000x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![12], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2048x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1000x2048 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384 : Shape := ⟨1, ![16384]⟩
abbrev S1000x128 : Shape := ⟨2, ![1000, 128]⟩
abbrev S2048x128 : Shape := ⟨2, ![2048, 128]⟩
abbrev S1000x2048 : Shape := ⟨2, ![1000, 2048]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S128x2048 : Shape := ⟨2, ![128, 2048]⟩
abbrev S16384x2048 : Shape := ⟨2, ![16384, 2048]⟩
abbrev S2048x1000 : Shape := ⟨2, ![2048, 1000]⟩
abbrev S16384x1000 : Shape := ⟨2, ![16384, 1000]⟩

abbrev nBuf : Space → Nat
  | .hbm => 60
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000x128, .f32⟩
  | .hbm, ⟨3, _⟩ => ⟨S1000x128, .f32⟩
  | .hbm, ⟨4, _⟩ => ⟨S2048x128, .f32⟩
  | .hbm, ⟨5, _⟩ => ⟨S1000x2048, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x128, .f32⟩
  | .hbm, ⟨25, _⟩ => ⟨S16384x128, .i1⟩
  | .hbm, ⟨26, _⟩ => ⟨S_, .f32⟩
  | .hbm, ⟨27, _⟩ => ⟨S16384x128, .f32⟩
  | .hbm, ⟨28, _⟩ => ⟨S16384x128, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S1, .i32⟩
  | .hbm, ⟨38, _⟩ => ⟨S_, .i32⟩
  | .hbm, ⟨39, _⟩ => ⟨S16384x1, .i32⟩
  | .hbm, ⟨40, _⟩ => ⟨S16384x1, .i1⟩
  | .hbm, ⟨41, _⟩ => ⟨S1x1, .i32⟩
  | .hbm, ⟨42, _⟩ => ⟨S16384x1, .i32⟩
  | .hbm, ⟨43, _⟩ => ⟨S16384x1, .i1⟩
  | .hbm, ⟨44, _⟩ => ⟨S16384x1, .i1⟩
  | .hbm, ⟨45, _⟩ => ⟨S_, .i1⟩
  | .hbm, ⟨46, _⟩ => ⟨S16384, .i1⟩
  | .hbm, ⟨47, _⟩ => ⟨S16384x128, .f32⟩
  | .hbm, ⟨48, _⟩ => ⟨S16384x128, .i1⟩
  | .hbm, ⟨49, _⟩ => ⟨S_, .f32⟩
  | .hbm, ⟨50, _⟩ => ⟨S16384x128, .f32⟩
  | .hbm, ⟨51, _⟩ => ⟨S16384x128, .f32⟩
  | .hbm, ⟨52, _⟩ => ⟨S16384x128, .f32⟩
  | .hbm, ⟨53, _⟩ => ⟨S128x2048, .f32⟩
  | .hbm, ⟨54, _⟩ => ⟨S16384x2048, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S2048x1000, .f32⟩
  | .hbm, ⟨59, _⟩ => ⟨S16384x1000, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_call2_cst : Ref sig .tc := ⟨.hbm, 55, rfl⟩
abbrev main_call2_v0 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩

abbrev nD : Nat := 1
abbrev τ : Topo := Topo.v7x

variable {F : FTy → Type} [FloatOps F]
-- ==== Proof.KI.Setup.lean ====
/-
  The launch of the kernel as the proof sees it: the two SparseCore calls' handshakes, the resource algebra, the
  buffers by name, the share of the four read-only arrays that each task borrows, the rows of the outputs that each
  task owns, and the arrays that the two calls leave behind.
-/
module

public import proofs.«01_k».proof.Defs
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.Pipeline.Regions
public import Idealize.ShloMosaic.Lib.Tactic

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

/-- The program's entries, those of its two pipelines included. -/
abbrev ΛP : Labels := Pipeline.Sig Λ₀ (Fin 2) fun p => (pcfgs (F := F) p).Adm
/-- The SparseCore calls of the program. -/
abbrev K : SparseCore.Cfg τ sig (ΛP (F := F)) 2 := sc (F := F)
/-- What each entry runs. -/
abbrev D [FloatOps F] : Defs nD τ sig (Elt F) (ΛP (F := F)) := Pipeline.defs pcfgs defs₀
/-- No loop needs a variant of its own. -/
abbrev 𝒱₀ : Variants := Variants.none
/-- The same beside the pipelines. -/
abbrev 𝒱 : Variants := 𝒱₀.lift
/-- The variant every thread starts from. -/
abbrev v₀ : 𝒱.V := Sum.inl none

/-- The handshake semaphores are distinct and not scoped, no scratch is shared between tasks, and both calls are
    vector-subcore kernels. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

/-- The handshakes' rounds. -/
abbrev UH : Type := URounds (GSem nD τ sig) ℕ
/-- The pipelines' rounds. -/
abbrev UP : Type := UR sig nD τ
/-- Both, and the transfers' counters. -/
abbrev UU : Type := UH × (UP × Counters)

/-- The assertions of the proof. -/
abbrev MM (F : FTy → Type) : Type := MT nD τ sig (HIx 2) (Elt F) ℕ UU ℕ

/-- Where the handshakes' rounds live. -/
def EH : Emb UH (MM F) := embL

/-- The handshakes' rounds lie in the user's part. -/
instance EH_lands : (EH (F := F)).LandsIn (upEmb : UEmb _ (MM F)) := by unfold EH; infer_instance

/-- Where the pipelines' rounds live. -/
def EP : Emb UP (MM F) := (Emb.inl : Emb UP (UP × Counters)).trans embR

/-- So do the pipelines'. -/
instance EP_lands : (EP (F := F)).LandsIn (upEmb : UEmb _ (MM F)) := by unfold EP; infer_instance

local notation "𝕄" => MM F

/-! ## The buffers -/

variable (m : (ℓ : Loc nD τ sig) → Buf (Elt F) ℓ)

/-- The first index list. -/
abbrev aLoc (d : Dev nD) : Loc nD τ sig := (SparseCore.T d).loc main_arg0
/-- The second index list. -/
abbrev bLoc (d : Dev nD) : Loc nD τ sig := (SparseCore.T d).loc main_arg1
/-- The first embedding table. -/
abbrev eaLoc (d : Dev nD) : Loc nD τ sig := (SparseCore.T d).loc main_arg2
/-- The second embedding table. -/
abbrev ebLoc (d : Dev nD) : Loc nD τ sig := (SparseCore.T d).loc main_arg3
/-- The rows the first call reads from the first table, and from the second. -/
abbrev p0Loc (d : Dev nD) : Loc nD τ sig := (SparseCore.T d).loc main_v2_0
/-- The rows the first call reads from the second table. -/
abbrev p1Loc (d : Dev nD) : Loc nD τ sig := (SparseCore.T d).loc main_v2_1
/-- The rows the second call reads from the first table, and from the second. -/
abbrev q0Loc (d : Dev nD) : Loc nD τ sig := (SparseCore.T d).loc main_v3_0
/-- The rows the second call reads from the second table. -/
abbrev q1Loc (d : Dev nD) : Loc nD τ sig := (SparseCore.T d).loc main_v3_1

/-! ## Tasks, their shares and their rows -/

/-- The task on vector subcore `s` of SparseCore `c`, for either call (the two calls have one grid). -/
def coordsV (c : Fin 2) (s : Fin 16) : grid0.Coords :=
  fun | 0 => c | 1 => s | ⟨_ + 2, h⟩ => absurd h (Nat.not_lt.2 (Nat.le_add_left _ _))

/-- The task's number among the thirty-two. -/
def task (L : grid0.Coords) : Fin (2 * 16) := finProdFinEquiv ((⟨(L 0).val, (L 0).isLt⟩ : Fin 2), (⟨(L 1).val, (L 1).isLt⟩ : Fin 16))

/-- The share of each read-only array that a task borrows: one of thirty-two pieces. -/
def tq (L : grid0.Coords) : PosShare TreeShare := pieceOf fullShare (2 * 16) (by decide) (task L)

/-- The rows of the first call's outputs that a task writes. -/
abbrev rect0 (L : grid0.Coords) : Rect S4096x128 := Rect.unit (s := S4096x128) (k0_off2 L) S128x128.size (k0_off2_inb L)
/-- The rows of the second call's outputs that a task writes in its chunk `r`. -/
abbrev rect1 (L : grid1.Coords) (r : Fin 3) : Rect S12288x128 :=
  Rect.unit (s := S12288x128) (k1_off2 L (BitVec.ofNat 32 (128 * r.val))) S128x128.size (k1_off2_inb L r)

/-! ## What the calls leave -/

/-- The word `k` of a list of indices. -/
def word {n : ℕ} (f : Shape.Idx ⟨1, ![n]⟩ → BitVec 32) (k : Fin n) : BitVec 32 := f fun | 0 => k

/-- The row of a table that an index word names. -/
def rowOf (v : BitVec 32) : Fin 1000 := ⟨v.toNat % 1000, Nat.mod_lt _ (by decide)⟩

/-- Element `j` of row `r` of a table. -/
def cell {α : Type} (f : S1000x128.Idx → α) (r : Fin 1000) (j : Fin 128) : α := f fun | 0 => r | 1 => j

/-- The rows of table `t` that the words `o, o + 1, …` of list `l` name, as an array of `n` rows. -/
def picked {α : Type} (n o : ℕ) (h : n + o ≤ 16384) (l : S16384.Idx → BitVec 32) (t : S1000x128.Idx → α)
    (x : Shape.Idx ⟨2, ![n, 128]⟩) : α :=
  cell t (rowOf (word l ⟨(x 0).val + o, by have : (x 0).val < n := (x 0).isLt; omega⟩)) ⟨(x 1).val, (x 1).isLt⟩

/-- What the first call leaves of the first table. -/
def GP0 (d : Dev nD) : Buf (Elt F) (p0Loc d) := picked 4096 0 (by decide) (m (aLoc d)) (m (eaLoc d))
/-- What the first call leaves of the second table. -/
def GP1 (d : Dev nD) : Buf (Elt F) (p1Loc d) := picked 4096 0 (by decide) (m (bLoc d)) (m (ebLoc d))
/-- What the second call leaves of the first table. -/
def GQ0 (d : Dev nD) : Buf (Elt F) (q0Loc d) := picked 12288 4096 (by decide) (m (aLoc d)) (m (eaLoc d))
/-- What the second call leaves of the second table. -/
def GQ1 (d : Dev nD) : Buf (Elt F) (q1Loc d) := picked 12288 4096 (by decide) (m (bLoc d)) (m (ebLoc d))

/-- What the proof asks of the memory at launch: every index names a row of its table. -/
def PreOK : Prop := ∀ (d : Dev nD) (j : S16384.Idx), (m (aLoc d) j).toNat < 1000 ∧ (m (bLoc d) j).toNat < 1000

/-! ## What the handshakes carry -/

/-- A task's share of the four read-only arrays. -/
abbrev tabs (d : Dev nD) (L : grid0.Coords) : sProp 𝕄 :=
  iprop((aLoc d ↦{tq L} m (aLoc d)) ∗ (bLoc d ↦{tq L} m (bLoc d)) ∗ (eaLoc d ↦{tq L} m (eaLoc d)) ∗ (ebLoc d ↦{tq L} m (ebLoc d)))

/-- The first call's output rows of one task, at given contents. -/
abbrev rows0 (d : Dev nD) (L : grid0.Coords) (f : Buf (Elt F) (p0Loc d)) (g : Buf (Elt F) (p1Loc d)) : sProp 𝕄 :=
  iprop((p0Loc d ↦[(rect0 L).set]{fullShare} f) ∗ (p1Loc d ↦[(rect0 L).set]{fullShare} g))

/-- The second call's output rows of one task in chunk `r`, at given contents. -/
abbrev rows1 (d : Dev nD) (L : grid0.Coords) (r : Fin 3) (f : Buf (Elt F) (q0Loc d)) (g : Buf (Elt F) (q1Loc d)) : sProp 𝕄 :=
  iprop((q0Loc d ↦[(rect1 L r).set]{fullShare} f) ∗ (q1Loc d ↦[(rect1 L r).set]{fullShare} g))

/-- What a task of the first call takes. -/
abbrev in0 (d : Dev nD) (L : grid0.Coords) : sProp 𝕄 := iprop(tabs m d L ∗ rows0 d L (m (p0Loc d)) (m (p1Loc d)))
/-- What it gives back. -/
abbrev out0 (d : Dev nD) (L : grid0.Coords) : sProp 𝕄 := iprop(tabs m d L ∗ rows0 d L (GP0 m d) (GP1 m d))
/-- What a task of the second call takes. -/
abbrev in1 (d : Dev nD) (L : grid0.Coords) : sProp 𝕄 :=
  iprop(tabs m d L ∗ rows1 d L 0 (m (q0Loc d)) (m (q1Loc d)) ∗ rows1 d L 1 (m (q0Loc d)) (m (q1Loc d)) ∗ rows1 d L 2 (m (q0Loc d)) (m (q1Loc d)))
/-- What it gives back. -/
abbrev out1 (d : Dev nD) (L : grid0.Coords) : sProp 𝕄 :=
  iprop(tabs m d L ∗ rows1 d L 0 (GQ0 m d) (GQ1 m d) ∗ rows1 d L 1 (GQ0 m d) (GQ1 m d) ∗ rows1 d L 2 (GQ0 m d) (GQ1 m d))

/-- A task's coordinates from its numbers in call `q`. -/
abbrev at0 (c : Fin ((K (F := F)).nCore 0)) (i : Fin ((K (F := F)).nSub 0)) : grid0.Coords := coordsV ⟨c.val, c.isLt⟩ ⟨i.val, i.isLt⟩
/-- The same in the second call. -/
abbrev at1 (c : Fin ((K (F := F)).nCore 1)) (i : Fin ((K (F := F)).nSub 1)) : grid0.Coords := coordsV ⟨c.val, c.isLt⟩ ⟨i.val, i.isLt⟩

/-- What each call sends out and gets back: a task its share and its rows; a SparseCore its sixteen tasks'. -/
def P : (K (F := F)).Pay (nD := nD) (Val := Elt F) (Name := ℕ) (U := UU) where
  st := fun q d c => match q with
    | 0 => bigSep Finset.univ fun i => in0 m d (at0 (F := F) c i)
    | 1 => bigSep Finset.univ fun i => in1 m d (at1 (F := F) c i)
  dn := fun q d c => match q with
    | 0 => bigSep Finset.univ fun i => out0 m d (at0 (F := F) c i)
    | 1 => bigSep Finset.univ fun i => out1 m d (at1 (F := F) c i)
  go := fun q d c i => match q with
    | 0 => in0 m d (at0 (F := F) c i)
    | 1 => in1 m d (at1 (F := F) c i)
  td := fun q d c i => match q with
    | 0 => out0 m d (at0 (F := F) c i)
    | 1 => out1 m d (at1 (F := F) c i)
  x := fun _ _ => iprop(emp)

/-- All of it may be left in an invariant. -/
instance P_storable : (P (F := F) m).IsStorable where
  st q d c := match q with
    | 0 => (inferInstance : BI.Storable (upEmb : UEmb _ 𝕄) (bigSep Finset.univ fun i => in0 m d (at0 (F := F) c i)))
    | 1 => (inferInstance : BI.Storable (upEmb : UEmb _ 𝕄) (bigSep Finset.univ fun i => in1 m d (at1 (F := F) c i)))
  dn q d c := match q with
    | 0 => (inferInstance : BI.Storable (upEmb : UEmb _ 𝕄) (bigSep Finset.univ fun i => out0 m d (at0 (F := F) c i)))
    | 1 => (inferInstance : BI.Storable (upEmb : UEmb _ 𝕄) (bigSep Finset.univ fun i => out1 m d (at1 (F := F) c i)))
  go q d c i := match q with
    | 0 => (inferInstance : BI.Storable (upEmb : UEmb _ 𝕄) (in0 m d (at0 (F := F) c i)))
    | 1 => (inferInstance : BI.Storable (upEmb : UEmb _ 𝕄) (in1 m d (at1 (F := F) c i)))
  td q d c i := match q with
    | 0 => (inferInstance : BI.Storable (upEmb : UEmb _ 𝕄) (out0 m d (at0 (F := F) c i)))
    | 1 => (inferInstance : BI.Storable (upEmb : UEmb _ 𝕄) (out1 m d (at1 (F := F) c i)))

/-- A SparseCore's part is its sixteen tasks' parts together. -/
theorem vecSplit : ∀ q, (K (F := F)).VecSplit' (P m) q
  | 0 => by
    intro d c
    show (bigSep Finset.univ fun i => in0 m d (at0 (F := F) c i)) ⊢ |={Set.univ}=> iprop(
      (bigSep Finset.univ fun i => in0 m d (at0 (F := F) c i))
      ∗ ((bigSep Finset.univ fun i => out0 m d (at0 (F := F) c i)) -∗ (bigSep Finset.univ fun i => out0 m d (at0 (F := F) c i))))
    iintro H; imodintro
    isplitl [H]; · iexact H
    iintro H; iexact H
  | 1 => by
    intro d c
    show (bigSep Finset.univ fun i => in1 m d (at1 (F := F) c i)) ⊢ |={Set.univ}=> iprop(
      (bigSep Finset.univ fun i => in1 m d (at1 (F := F) c i))
      ∗ ((bigSep Finset.univ fun i => out1 m d (at1 (F := F) c i)) -∗ (bigSep Finset.univ fun i => out1 m d (at1 (F := F) c i))))
    iintro H; imodintro
    isplitl [H]; · iexact H
    iintro H; iexact H

end Cert.KernelIdeal.Pf

end
-- ==== Proof.KI.Values.lean ====
/-
  What a task's transfers deliver: an indirect gather's payload as the named rows of the table, a whole write read back,
  and a whole write through a window compared with another array on the window's elements.
-/
module

public import proofs.«01_k».proof.Proof.KI.Setup

@[expose] public section

noncomputable section

namespace Cert.KernelIdeal.Pf

open Cert.KernelIdeal Cert.KernelIdeal.Gen
open Idealize.ShloMosaic

variable {F : FTy → Type}

/-- The element at position `k` of a list of 128, in row-major order, is its word `k`. -/
theorem list_at (ix : S128.Idx → BitVec 32) (k : Fin 128) (h : (128 : ℕ) = S128.numel) :
    ix (S128.rowMajor.symm (k.cast h)) = word (n := 128) ix k := by
  unfold word
  congr 1
  funext a
  match a with
  | 0 =>
    apply Fin.ext
    exact (Shape.rowMajor_val_one (d := ![128]) _).symm.trans (congrArg Fin.val (S128.rowMajor.apply_symm_apply (k.cast h)))

/-- Element `x` of a gather of 128 rows: the element of the table in the row that word `x 0` of the list names, in
    column `x 1`. -/
theorem gather_cell (g : S1000x128.Idx → Elt F .f32) (ix : S128.Idx → Elt F .i32) (hn : S128.numel = S128x128.size gathers_S1000x128_S128x128.axis')
    (hin : ∀ x, (ix x).toNat < S1000x128.size gathers_S1000x128_S128x128.axis) (x : S128x128.Idx) :
    SparseCore.gatherPayload gathers_S1000x128_S128x128 g (SparseCore.rows ix hn hin) x
      = cell g (rowOf (word (n := 128) ix ⟨(x 0).val, (x 0).isLt⟩)) ⟨(x 1).val, (x 1).isLt⟩ := by
  unfold SparseCore.gatherPayload cell
  congr 1
  funext b
  match b with
  | 0 =>
    refine (Shape.Gathers.idx_axis gathers_S1000x128_S128x128 _ x).trans (Fin.ext ?_)
    show (ix (S128.rowMajor.symm (Fin.cast hn.symm (⟨(x 0).val, (x 0).isLt⟩ : Fin 128)))).toNat = (word (n := 128) ix _).toNat % 1000
    rw [Nat.mod_eq_of_lt (show (word (n := 128) ix ⟨(x 0).val, (x 0).isLt⟩).toNat < 1000 from hin _)]
    exact congrArg BitVec.toNat (list_at ix ⟨(x 0).val, (x 0).isLt⟩ hn.symm)
  | 1 => exact Fin.ext (Shape.Gathers.idx_of_ne gathers_S1000x128_S128x128 _ x 1 (by decide))

/-- Two elements of a table, in rows named by equal words and in equal columns, are equal. -/
theorem cell_congr {α : Type} {f g : S1000x128.Idx → α} (hf : f = g) {v w : BitVec 32} (h : v = w) {j k : Fin 128} (hj : j.val = k.val) :
    cell f (rowOf v) j = cell g (rowOf w) k := by
  rw [hf, h, Fin.ext hj]

/-- Words of one list at equal positions are equal. -/
theorem at_congr {n : ℕ} (f : Shape.Idx ⟨1, ![n]⟩ → BitVec 32) {x y : Shape.Idx ⟨1, ![n]⟩} (h : (x 0).val = (y 0).val) : f x = f y := by
  congr 1
  funext a
  match a with
  | 0 => exact Fin.ext h

variable {sig : RefSig} {κ : Kind} {sp : Space} {s : Shape} {e : EltTy} (v : View sig κ sp s e)

/-- A whole write read back is what was written, whatever was written before it. -/
theorem read_landed (f : v.ty.Contents (Elt F)) (l : List (View.Piece (Elt F) s e)) (w : s.Idx → Elt F e) :
    v.read (Elt F) (v.writes (Elt F) f (⟨Rect.whole s, w⟩ :: l)) = w := by
  funext x
  have h := View.read_slice_write_emb (v := v) (Val := Elt F) (Rect.whole s) (v.writes (Elt F) f l) w (Finset.mem_univ x)
  rwa [Rect.emb_whole_apply] at h

/-- A whole write through a window is another array on the window's elements where what was written is what the window
    reads of that array. -/
theorem landed (f g : v.ty.Contents (Elt F)) (w : s.Idx → Elt F e) (h : ∀ x, w x = v.read (Elt F) g x) :
    ∀ i ∈ v.set, v.writes (Elt F) f [⟨Rect.whole s, w⟩] i = g i := by
  intro i hi
  obtain ⟨x, -, rfl⟩ := Finset.mem_map.mp hi
  have h' := (congrFun (read_landed (F := F) v f [] w) x).trans (h x)
  rw [View.read_apply, View.read_apply] at h'
  exact cast_inj _ |>.mp h'

end Cert.KernelIdeal.Pf

end
-- ==== Proof.KI.Tile0.lean ====
/-
  One task of the first SparseCore call: it copies its 128 words of each index list, gathers the rows of the two tables
  that they name, and writes them out as its rows of the two results.
-/
module

public import proofs.«01_k».proof.Proof.KI.Values

@[expose] public section

noncomputable section

namespace Cert.KernelIdeal.Pf

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ)

local notation "aV" => (Memref.whole Cert.KernelIdeal.main_arg0_scv : Memref Cert.KernelIdeal.sig Kind.scVector Space.hbm Cert.KernelIdeal.S16384 EltTy.i32)
local notation "bV" => (Memref.whole Cert.KernelIdeal.main_arg1_scv : Memref Cert.KernelIdeal.sig Kind.scVector Space.hbm Cert.KernelIdeal.S16384 EltTy.i32)
local notation "eaV" => (Memref.whole Cert.KernelIdeal.main_arg2_scv : Memref Cert.KernelIdeal.sig Kind.scVector Space.hbm Cert.KernelIdeal.S1000x128 EltTy.f32)
local notation "ebV" => (Memref.whole Cert.KernelIdeal.main_arg3_scv : Memref Cert.KernelIdeal.sig Kind.scVector Space.hbm Cert.KernelIdeal.S1000x128 EltTy.f32)
local notation "p0V" => (Memref.whole Cert.KernelIdeal.main_v2_0_scv : Memref Cert.KernelIdeal.sig Kind.scVector Space.hbm Cert.KernelIdeal.S4096x128 EltTy.f32)
local notation "p1V" => (Memref.whole Cert.KernelIdeal.main_v2_1_scv : Memref Cert.KernelIdeal.sig Kind.scVector Space.hbm Cert.KernelIdeal.S4096x128 EltTy.f32)
local notation "laV" => (Memref.whole Cert.KernelIdeal.cc0_scratch0 : Memref Cert.KernelIdeal.sig Kind.scVector Space.vmem Cert.KernelIdeal.S128 EltTy.i32)
local notation "lbV" => (Memref.whole Cert.KernelIdeal.cc0_scratch1 : Memref Cert.KernelIdeal.sig Kind.scVector Space.vmem Cert.KernelIdeal.S128 EltTy.i32)
local notation "raV" => (Memref.whole Cert.KernelIdeal.cc0_scratch2 : Memref Cert.KernelIdeal.sig Kind.scVector Space.vmem Cert.KernelIdeal.S128x128 EltTy.f32)
local notation "rbV" => (Memref.whole Cert.KernelIdeal.cc0_scratch3 : Memref Cert.KernelIdeal.sig Kind.scVector Space.vmem Cert.KernelIdeal.S128x128 EltTy.f32)

section Tile

variable (d : Dev nD) (L : grid0.Coords)

/-- The SparseCore that runs the task. -/
abbrev cV (L : grid0.Coords) : Fin τ.nSC := (L 0).castLE hcore0
/-- The vector subcore's number on it. -/
abbrev jV (L : grid0.Coords) : Fin τ.nSub := (L 1).castLE hsub0
/-- The subcore that runs the task. -/
abbrev tV (d : Dev nD) (L : grid0.Coords) : Thread nD τ := V d (cV L) (jV L)

/-- The task's rows of the two results, as the task addresses them. -/
abbrev o0K (L : grid0.Coords) : Memref sig .scVector .hbm S128x128 .f32 := (p0V).slice (rect0 L) (fun _ => rfl)
/-- The same rows of the second result. -/
abbrev o1K (L : grid0.Coords) : Memref sig .scVector .hbm S128x128 .f32 := (p1V).slice (rect0 L) (fun _ => rfl)

/-- The rows so addressed are the task's rows of the first result. -/
theorem set_o0K : (o0K L).view.set = (rect0 L).set := View.set_slice_whole _ _
/-- And of the second. -/
theorem set_o1K : (o1K L).view.set = (rect0 L).set := View.set_slice_whole _ _

/-- The task's rows of the first result, addressed either way, are the same rows held. -/
theorem pts_o0K (f : Buf (Elt F) (p0Loc d)) :
    ((o0K L).view.loc (tV d L) ↦[(o0K L).view.set]{fullShare} f : sProp 𝕄) = p0Loc d ↦[(rect0 L).set]{fullShare} f := by
  rw [set_o0K]
/-- The same of the second result. -/
theorem pts_o1K (f : Buf (Elt F) (p1Loc d)) :
    ((o1K L).view.loc (tV d L) ↦[(o1K L).view.set]{fullShare} f : sProp 𝕄) = p1Loc d ↦[(rect0 L).set]{fullShare} f := by
  rw [set_o1K]
/-- The first list, addressed either way. -/
theorem pts_aV (q : PosShare TreeShare) (f : Buf (Elt F) (aLoc d)) :
    ((aV).view.loc (tV d L) ↦{q} f : sProp 𝕄) = aLoc d ↦{q} f := rfl
/-- The second list. -/
theorem pts_bV (q : PosShare TreeShare) (f : Buf (Elt F) (bLoc d)) :
    ((bV).view.loc (tV d L) ↦{q} f : sProp 𝕄) = bLoc d ↦{q} f := rfl
/-- The first table. -/
theorem pts_eaV (q : PosShare TreeShare) (f : Buf (Elt F) (eaLoc d)) :
    ((eaV).view.loc (tV d L) ↦{q} f : sProp 𝕄) = eaLoc d ↦{q} f := rfl
/-- The second table. -/
theorem pts_ebV (q : PosShare TreeShare) (f : Buf (Elt F) (ebLoc d)) :
    ((ebV).view.loc (tV d L) ↦{q} f : sProp 𝕄) = ebLoc d ↦{q} f := rfl

/-- The first list's scratch, addressed either way. -/
theorem pts_laV (f : Buf (Elt F) ((tV d L).loc cc0_scratch0)) :
    ((laV).view.loc (tV d L) ↦{fullShare} f : sProp 𝕄) = (tV d L).loc cc0_scratch0 ↦{fullShare} f := rfl
/-- The second list's. -/
theorem pts_lbV (f : Buf (Elt F) ((tV d L).loc cc0_scratch1)) :
    ((lbV).view.loc (tV d L) ↦{fullShare} f : sProp 𝕄) = (tV d L).loc cc0_scratch1 ↦{fullShare} f := rfl
/-- The first table's rows' scratch. -/
theorem pts_raV (f : Buf (Elt F) ((tV d L).loc cc0_scratch2)) :
    ((raV).view.loc (tV d L) ↦{fullShare} f : sProp 𝕄) = (tV d L).loc cc0_scratch2 ↦{fullShare} f := rfl
/-- The second table's. -/
theorem pts_rbV (f : Buf (Elt F) ((tV d L).loc cc0_scratch3)) :
    ((rbV).view.loc (tV d L) ↦{fullShare} f : sProp 𝕄) = (tV d L).loc cc0_scratch3 ↦{fullShare} f := rfl

/-- A scoped semaphore of the subcore. -/
abbrev sCell (thr : Thread nD τ) (s : DmaSem sig) : GSem nD τ sig := (thr, .dma s)

/-- Different semaphores of a subcore are different cells. -/
theorem sCell_ne {thr : Thread nD τ} {s s' : DmaSem sig} (h : s ≠ s') : sCell thr s ≠ sCell thr s' := fun e =>
  h (SemLoc.dma.inj (Prod.mk.inj e).2)

/-- One scoped semaphore taken out of a set of the subcore's cells. -/
theorem sem_out {d : Dev nD} {c : Fin τ.nSC} {i : Fin τ.nSub} (S : Finset (GSem nD τ sig)) (s : DmaSem sig) (h : sCell (V d c i) s ∈ S) :
    (bigSep S fun g => semVal g 0 : sProp 𝕄) = iprop(semVal (sCell (V d c i) s) 0 ∗ bigSep (S.erase (sCell (V d c i) s)) fun g => semVal g 0) :=
  SparseCore.bigSep_erase' h

/-- A scoped semaphore is among the subcore's own. -/
theorem mem_own {d : Dev nD} {c : Fin τ.nSC} {i : Fin τ.nSub} (s : DmaSem sig) (h : (SemLoc.dma s : SemLoc sig).isScoped .scVector = true) :
    sCell (V d c i) s ∈ ownCells (V d c i) := mem_ownCells.mpr ⟨rfl, h⟩

/-- The six semaphores of the first call's task, and the rest of the subcore's. -/
theorem sems0 {d : Dev nD} {c : Fin τ.nSC} {i : Fin τ.nSub} :
    (ownSems0 (V d c i) : sProp 𝕄)
      = iprop(semVal (sCell (V d c i) cc0_scratch4.sem) 0 ∗ semVal (sCell (V d c i) cc0_scratch5.sem) 0 ∗ semVal (sCell (V d c i) cc0_scratch6.sem) 0
          ∗ semVal (sCell (V d c i) cc0_scratch7.sem) 0 ∗ semVal (sCell (V d c i) cc0_scoped0.sem) 0 ∗ semVal (sCell (V d c i) cc0_scoped1.sem) 0
          ∗ bigSep (((((((ownCells (V d c i)).erase (sCell (V d c i) cc0_scratch4.sem)).erase (sCell (V d c i) cc0_scratch5.sem)).erase
              (sCell (V d c i) cc0_scratch6.sem)).erase (sCell (V d c i) cc0_scratch7.sem)).erase (sCell (V d c i) cc0_scoped0.sem)).erase
              (sCell (V d c i) cc0_scoped1.sem)) fun g => semVal g 0) := by
  unfold SparseCore.Cfg.ownSems0
  rw [sem_out _ cc0_scratch4.sem (mem_own _ (by decide)),
    sem_out _ cc0_scratch5.sem (Finset.mem_erase.mpr ⟨sCell_ne (by decide), mem_own _ (by decide)⟩),
    sem_out _ cc0_scratch6.sem (Finset.mem_erase.mpr ⟨sCell_ne (by decide), Finset.mem_erase.mpr ⟨sCell_ne (by decide), mem_own _ (by decide)⟩⟩),
    sem_out _ cc0_scratch7.sem (Finset.mem_erase.mpr ⟨sCell_ne (by decide), Finset.mem_erase.mpr ⟨sCell_ne (by decide),
      Finset.mem_erase.mpr ⟨sCell_ne (by decide), mem_own _ (by decide)⟩⟩⟩),
    sem_out _ cc0_scoped0.sem (Finset.mem_erase.mpr ⟨sCell_ne (by decide), Finset.mem_erase.mpr ⟨sCell_ne (by decide),
      Finset.mem_erase.mpr ⟨sCell_ne (by decide), Finset.mem_erase.mpr ⟨sCell_ne (by decide), mem_own _ (by decide)⟩⟩⟩⟩),
    sem_out _ cc0_scoped1.sem (Finset.mem_erase.mpr ⟨sCell_ne (by decide), Finset.mem_erase.mpr ⟨sCell_ne (by decide),
      Finset.mem_erase.mpr ⟨sCell_ne (by decide), Finset.mem_erase.mpr ⟨sCell_ne (by decide),
        Finset.mem_erase.mpr ⟨sCell_ne (by decide), mem_own _ (by decide)⟩⟩⟩⟩⟩)]

/-- One scratch buffer of the subcore taken out of a set of its buffers. -/
theorem buf_out {d : Dev nD} {c : Fin τ.nSC} {i : Fin τ.nSub} (S : Finset (DevRef τ sig)) (b : Ref sig .scVector)
    (h : (Proc.scVector c i).devRef b ∈ S) :
    (bigSep S fun b => iprop(∃ f, ((d, b) : Loc nD τ sig) ↦{fullShare} f) : sProp 𝕄)
      = iprop((∃ f, (V d c i).loc b ↦{fullShare} f) ∗ bigSep (S.erase ((Proc.scVector c i).devRef b)) fun b => iprop(∃ f, ((d, b) : Loc nD τ sig) ↦{fullShare} f)) :=
  SparseCore.bigSep_erase' h

/-- Different buffers of a subcore are different buffers of the device. -/
theorem devRef_ne {c : Fin τ.nSC} {i : Fin τ.nSub} {b b' : Ref sig .scVector} (h : b ≠ b') :
    (Proc.scVector c i : Proc τ).devRef b ≠ (Proc.scVector c i).devRef b' := fun e => h (Proc.devRef_injective _ e)

/-- A buffer in the subcore's own memory is among its own. -/
theorem mem_refs {c : Fin τ.nSC} {i : Fin τ.nSub} (b : Ref sig .scVector) (h : ((Proc.scVector c i).devRef b : DevRef τ sig).owner = .proc (.scVector c i)) :
    (Proc.scVector c i).devRef b ∈ ownRefs (τ := τ) (.scVector c i) := SparseCore.Cfg.mem_ownRefs_of_owner h

/-- The four scratch buffers of the first call's task, and the rest of the subcore's. -/
theorem bufs0 {d : Dev nD} {c : Fin τ.nSC} {i : Fin τ.nSub} :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ bigSep (((((ownRefs (τ := τ) (.scVector c i)).erase ((Proc.scVector c i).devRef cc0_scratch0)).erase ((Proc.scVector c i).devRef cc0_scratch1)).erase
              ((Proc.scVector c i).devRef cc0_scratch2)).erase ((Proc.scVector c i).devRef cc0_scratch3))
              fun b => iprop(∃ f, ((d, b) : Loc nD τ sig) ↦{fullShare} f)) := by
  unfold SparseCore.Cfg.ownBufs
  rw [buf_out _ cc0_scratch0 (mem_refs _ rfl),
    buf_out _ cc0_scratch1 (Finset.mem_erase.mpr ⟨devRef_ne (by decide), mem_refs _ rfl⟩),
    buf_out _ cc0_scratch2 (Finset.mem_erase.mpr ⟨devRef_ne (by decide), Finset.mem_erase.mpr ⟨devRef_ne (by decide), mem_refs _ rfl⟩⟩),
    buf_out _ cc0_scratch3 (Finset.mem_erase.mpr ⟨devRef_ne (by decide), Finset.mem_erase.mpr ⟨devRef_ne (by decide),
      Finset.mem_erase.mpr ⟨devRef_ne (by decide), mem_refs _ rfl⟩⟩⟩)]

variable [FloatOps F]

/-- The words of an index list that the task copies, as the task addresses them. -/
abbrev aK (L : grid0.Coords) : Memref sig .scVector .hbm S128 .i32 := (aV).slice (Rect.unit (s := S16384) (k0_off1 L) S128.size (k0_off1_inb L)) (fun _ => rfl)
/-- The same of the second list. -/
abbrev bK (L : grid0.Coords) : Memref sig .scVector .hbm S128 .i32 := (bV).slice (Rect.unit (s := S16384) (k0_off1 L) S128.size (k0_off1_inb L)) (fun _ => rfl)
/-- The lists in the task's scratch, as its gathers read them. -/
abbrev laK : Memref sig .scVector .vmem S128 .i32 := (laV).slice (Rect.unit (s := S128) ![0] S128.size inb_S128_S128_0) (fun _ => rfl)
/-- The same of the second list. -/
abbrev lbK : Memref sig .scVector .vmem S128 .i32 := (lbV).slice (Rect.unit (s := S128) ![0] S128.size inb_S128_S128_0) (fun _ => rfl)

/-- Every word of a fetched list names a row of the table. -/
theorem in_a (hpre : PreOK m) (x : S128.Idx) :
    ((laK).view.read (Elt F) ((aK L).view.read (Elt F) (m (aLoc d))) x).toNat < 1000 := by
  rw [View.read_apply, cast_eq, View.read_apply, cast_eq]; exact (hpre d _).1
/-- The same of the second list. -/
theorem in_b (hpre : PreOK m) (x : S128.Idx) :
    ((lbK).view.read (Elt F) ((bK L).view.read (Elt F) (m (bLoc d))) x).toNat < 1000 := by
  rw [View.read_apply, cast_eq, View.read_apply, cast_eq]; exact (hpre d _).2

/-- The tables, as the task's gathers address them. -/
abbrev eaK : Memref sig .scVector .hbm S1000x128 .f32 := (eaV).slice (Rect.unit (s := S1000x128) ![0, 0] S1000x128.size inb_S1000x128_S1000x128_0_0) (fun _ => rfl)
/-- The same of the second table. -/
abbrev ebK : Memref sig .scVector .hbm S1000x128 .f32 := (ebV).slice (Rect.unit (s := S1000x128) ![0, 0] S1000x128.size inb_S1000x128_S1000x128_0_0) (fun _ => rfl)

/-- A table read through the window of all its elements is the table. -/
theorem read_eaK (f : S1000x128.Idx → Elt F .f32) : (eaK).view.read (Elt F) f = f := by
  funext x; rw [View.read_apply, cast_eq]; congr 1
  funext a; apply Fin.ext
  match a with
  | 0 => show 0 + 1 * (x 0).val = (x 0).val; omega
  | 1 => show 0 + 1 * (x 1).val = (x 1).val; omega
/-- The same of the second table. -/
theorem read_ebK (f : S1000x128.Idx → Elt F .f32) : (ebK).view.read (Elt F) f = f := read_eaK f

/-- The row that the task's gather from the first table delivers at `x` is the one the first call leaves there. -/
theorem picked_a (x : S128x128.Idx) :
    cell ((eaK).view.read (Elt F) (m (eaLoc d))) (rowOf (word (n := 128) ((laK).view.read (Elt F) ((aK L).view.read (Elt F) (m (aLoc d)))) ⟨(x 0).val, (x 0).isLt⟩))
        ⟨(x 1).val, (x 1).isLt⟩ = (o0K L).view.read (Elt F) (GP0 m d) x := by
  rw [View.read_apply, cast_eq]
  refine cell_congr (read_eaK _) ?_ ?_
  · unfold word
    rw [View.read_apply, cast_eq, View.read_apply, cast_eq]
    refine at_congr (n := 16384) (m (aLoc d)) ?_
    show k0_off1 L 0 + 1 * (0 + 1 * (x 0).val) = (k0_off2 L 0 + 1 * (x 0).val) + 0
    rw [k0_off1_eq, k0_off2_eq]; show 256 * (L 1).val + 128 * (L 0).val + _ = 256 * (L 1).val + 128 * (L 0).val + _ + 0; omega
  · show (x 1).val = k0_off2 L 1 + 1 * (x 1).val
    rw [k0_off2_eq]; show (x 1).val = 0 + 1 * (x 1).val; omega

/-- The row that the task's gather from the second table delivers at `x` is the one the first call leaves there. -/
theorem picked_b (x : S128x128.Idx) :
    cell ((ebK).view.read (Elt F) (m (ebLoc d))) (rowOf (word (n := 128) ((lbK).view.read (Elt F) ((bK L).view.read (Elt F) (m (bLoc d)))) ⟨(x 0).val, (x 0).isLt⟩))
        ⟨(x 1).val, (x 1).isLt⟩ = (o1K L).view.read (Elt F) (GP1 m d) x := by
  rw [View.read_apply, cast_eq]
  refine cell_congr (read_ebK _) ?_ ?_
  · unfold word
    rw [View.read_apply, cast_eq, View.read_apply, cast_eq]
    refine at_congr (n := 16384) (m (bLoc d)) ?_
    show k0_off1 L 0 + 1 * (0 + 1 * (x 0).val) = (k0_off2 L 0 + 1 * (x 0).val) + 0
    rw [k0_off1_eq, k0_off2_eq]; show 256 * (L 1).val + 128 * (L 0).val + _ = 256 * (L 1).val + 128 * (L 0).val + _ + 0; omega
  · show (x 1).val = k0_off2 L 1 + 1 * (x 1).val
    rw [k0_off2_eq]; show (x 1).val = 0 + 1 * (x 1).val; omega

set_option maxHeartbeats 4000000 in
/-- A task of the first call, from its share of the four arrays and its rows of the two results at any contents, leaves
    those rows at the rows of the tables that its words name. -/
theorem tile0_body (hF : (K (F := F)).Facts) (hpre : PreOK m) (O : CellTallies nD τ sig (HIx 2)) (W : Waits sig (HIx 2)) (hO : ∀ g, O g none = 0) :
    iprop(levAts (K (F := F)).L (K (F := F)).lev ∗ emp ∗ in0 m d L
        ∗ scopedBufs (tV d L) ∗ scopedSems0 (tV d L) ∗ owes (tV d L) O W)
      ⊢ wp frame (wpE (defs₀ (F := F)) 𝒱₀ (tV d L) none) Set.univ
          (cc0_body L aV (Memref.isWhole_whole _) bV (Memref.isWhole_whole _) eaV (Memref.isWhole_whole _) ebV (Memref.isWhole_whole _)
            p0V (Memref.isWhole_whole _) p1V (Memref.isWhole_whole _) laV (Memref.isWhole_whole _) lbV (Memref.isWhole_whole _)
            raV (Memref.isWhole_whole _) rbV (Memref.isWhole_whole _) cc0_scratch4 cc0_scratch5 cc0_scratch6 cc0_scratch7 cc0_scoped0 cc0_scoped1)
          fun _ => iprop(out0 m d L
            ∗ scopedBufs (tV d L) ∗ scopedSems0 (tV d L)
            ∗ ∃ W', ⌜∀ p ∈ W', p ∈ W ∨ p.2 = none⌝ ∗ owes (tV d L) O W') := by
  simp only [cc0_body_eq_skeleton]; unfold cc0_body_skel
  simp only [k0_part1_eq_skeleton]; unfold k0_part1_skel
  rw [(K (F := F)).scopedBufs_V hF d (cV L) (jV L), SparseCore.Cfg.scopedSems0_V (Val := Elt F) d (cV L) (jV L), sems0, bufs0]
  iintro ⟨#Hlv, -, ⟨⟨Ha, Hb, Hea, Heb⟩, Ho0, Ho1⟩, ⟨⟨%fla, Hla⟩, ⟨%flb, Hlb⟩, ⟨%fra, Hra⟩, ⟨%frb, Hrb⟩, Hbufs⟩, ⟨Hs4, Hs5, Hs6, Hs7, Hs0, Hs1, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Ha' := (Entails.of_eq (pts_aV (F := F) d L _ _).symm) $$ Ha
  ihave Hb' := (Entails.of_eq (pts_bV (F := F) d L _ _).symm) $$ Hb
  ihave Hea' := (Entails.of_eq (pts_eaV (F := F) d L _ _).symm) $$ Hea
  ihave Heb' := (Entails.of_eq (pts_ebV (F := F) d L _ _).symm) $$ Heb
  ihave Ho0' := (Entails.of_eq (pts_o0K (F := F) d L _).symm) $$ Ho0
  ihave Ho1' := (Entails.of_eq (pts_o1K (F := F) d L _).symm) $$ Ho1
  ihave Hla' := (Entails.of_eq (pts_laV (F := F) d L _).symm) $$ Hla
  ihave Hlb' := (Entails.of_eq (pts_lbV (F := F) d L _).symm) $$ Hlb
  ihave Hra' := (Entails.of_eq (pts_raV (F := F) d L _).symm) $$ Hra
  ihave Hrb' := (Entails.of_eq (pts_rbV (F := F) d L _).symm) $$ Hrb
  sl_exec
  have hwa : View.write (Elt F) (laV).view fla (tile0_body.sl.dma0 m d L) Finset.univ = (aK L).view.read (Elt F) (m (aLoc d)) := View.write_whole_univ _ _ _
  have hwb : View.write (Elt F) (lbV).view flb (tile0_body.sl.dma0_1 m d L) Finset.univ = (bK L).view.read (Elt F) (m (bLoc d)) := View.write_whole_univ _ _ _
  rw [hwa, hwb]
  have hina := in_a m d L hpre
  have hinb := in_b m d L hpre
  revert hina hinb
  generalize hlA : (aK L).view.read (Elt F) (m (aLoc d)) = lA
  generalize hlB : (bK L).view.read (Elt F) (m (bLoc d)) = lB
  intro hina hinb
  sl_exec
  have h0 : ∀ i ∈ (o0K L).view.set, (o0K L).view.writes (Elt F) (m (p0Loc d)) [⟨Rect.whole S128x128, tile0_body.sl.dma0_2 m d L fra lA hina⟩] i = GP0 m d i := by
    subst hlA
    exact landed (F := F) _ _ _ _ fun x => (congrFun (read_landed (F := F) _ _ _ _) x).trans ((gather_cell _ _ _ _ x).trans (picked_a m d L x))
  have h1 : ∀ i ∈ (o1K L).view.set, (o1K L).view.writes (Elt F) (m (p1Loc d)) [⟨Rect.whole S128x128, tile0_body.sl.dma0_3 m d L frb lB hinb⟩] i = GP1 m d i := by
    subst hlB
    exact landed (F := F) _ _ _ _ fun x => (congrFun (read_landed (F := F) _ _ _ _) x).trans ((gather_cell _ _ _ _ x).trans (picked_b m d L x))
  rw [wp_ret]; imodintro
  isplitl [Ha' Hb' Hea' Heb' Ho0' Ho1']
  · isplitl [Ha' Hb' Hea' Heb']
    · isplitl [Ha']; · iexact Ha'
      isplitl [Hb']; · iexact Hb'
      isplitl [Hea']; · iexact Hea'
      iexact Heb'
    · isplitl [Ho0']
      · iapply ((Entails.of_eq (pointsTo_congr h0)).trans (Entails.of_eq (pts_o0K (F := F) d L _))) $$ Ho0'
      · iapply ((Entails.of_eq (pointsTo_congr h1)).trans (Entails.of_eq (pts_o1K (F := F) d L _))) $$ Ho1'
  isplitl [Hla' Hlb' Hra' Hrb' Hbufs]
  · isplitl [Hla']; · iexists _; iexact Hla'
    isplitl [Hlb']; · iexists _; iexact Hlb'
    isplitl [Hra']; · iexists _; iexact Hra'
    isplitl [Hrb']; · iexists _; iexact Hrb'
    iexact Hbufs
  isplitl [Hs4 Hs5 Hs6 Hs7 Hs0 Hs1 Hsems]
  · isplitl [Hs4]; · iexact Hs4
    isplitl [Hs5]; · iexact Hs5
    isplitl [Hs6]; · iexact Hs6
    isplitl [Hs7]; · iexact Hs7
    isplitl [Hs0]; · iexact Hs0
    isplitl [Hs1]; · iexact Hs1
    iexact Hsems
  iexists _; isplitr
  swap; · iexact HO
  ipureintro; intro p hp
  iterate 6 rcases Finset.mem_insert.mp hp with hp | hp; · exact .inr (hp ▸ rfl)
  exact .inl hp

end Tile

end Cert.KernelIdeal.Pf

end
-- ==== Proof.KI.Tile1.lean ====
/-
  One task of the second SparseCore call: it copies its 384 words of each index list, then in three chunks of 128
  gathers the rows of the two tables that they name and writes them out as its rows of the two results.
-/
module

public import proofs.«01_k».proof.Proof.KI.Tile0

@[expose] public section

noncomputable section

namespace Cert.KernelIdeal.Pf

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ)

local notation "aV" => (Memref.whole Cert.KernelIdeal.main_arg0_scv : Memref Cert.KernelIdeal.sig Kind.scVector Space.hbm Cert.KernelIdeal.S16384 EltTy.i32)
local notation "bV" => (Memref.whole Cert.KernelIdeal.main_arg1_scv : Memref Cert.KernelIdeal.sig Kind.scVector Space.hbm Cert.KernelIdeal.S16384 EltTy.i32)
local notation "eaV" => (Memref.whole Cert.KernelIdeal.main_arg2_scv : Memref Cert.KernelIdeal.sig Kind.scVector Space.hbm Cert.KernelIdeal.S1000x128 EltTy.f32)
local notation "ebV" => (Memref.whole Cert.KernelIdeal.main_arg3_scv : Memref Cert.KernelIdeal.sig Kind.scVector Space.hbm Cert.KernelIdeal.S1000x128 EltTy.f32)
local notation "q0V" => (Memref.whole Cert.KernelIdeal.main_v3_0_scv : Memref Cert.KernelIdeal.sig Kind.scVector Space.hbm Cert.KernelIdeal.S12288x128 EltTy.f32)
local notation "q1V" => (Memref.whole Cert.KernelIdeal.main_v3_1_scv : Memref Cert.KernelIdeal.sig Kind.scVector Space.hbm Cert.KernelIdeal.S12288x128 EltTy.f32)
local notation "laV" => (Memref.whole Cert.KernelIdeal.cc1_scratch0 : Memref Cert.KernelIdeal.sig Kind.scVector Space.vmem Cert.KernelIdeal.S384 EltTy.i32)
local notation "lbV" => (Memref.whole Cert.KernelIdeal.cc1_scratch1 : Memref Cert.KernelIdeal.sig Kind.scVector Space.vmem Cert.KernelIdeal.S384 EltTy.i32)
local notation "raV" => (Memref.whole Cert.KernelIdeal.cc1_scratch2 : Memref Cert.KernelIdeal.sig Kind.scVector Space.vmem Cert.KernelIdeal.S128x128 EltTy.f32)
local notation "rbV" => (Memref.whole Cert.KernelIdeal.cc1_scratch3 : Memref Cert.KernelIdeal.sig Kind.scVector Space.vmem Cert.KernelIdeal.S128x128 EltTy.f32)

section Tile

variable (d : Dev nD) (L : grid1.Coords)

/-- A chunk's rows of the two results, as the task addresses them: from the chunk's first row `w`. -/
abbrev o0C (L : grid1.Coords) (w : BitVec 32) (h : ∀ a, (k1_off2 L w) a + S128x128.size a ≤ S12288x128.size a) : Memref sig .scVector .hbm S128x128 .f32 :=
  (q0V).slice (Rect.unit (s := S12288x128) (k1_off2 L w) S128x128.size h) (fun _ => rfl)
/-- The same rows of the second result. -/
abbrev o1C (L : grid1.Coords) (w : BitVec 32) (h : ∀ a, (k1_off2 L w) a + S128x128.size a ≤ S12288x128.size a) : Memref sig .scVector .hbm S128x128 .f32 :=
  (q1V).slice (Rect.unit (s := S12288x128) (k1_off2 L w) S128x128.size h) (fun _ => rfl)

/-- A chunk's rows of the first result, addressed either way, are the same rows held. -/
theorem pts_o0C (r : Fin 3) (w : BitVec 32) (hw : w = BitVec.ofNat 32 (128 * r.val)) (h) (f : Buf (Elt F) (q0Loc d)) :
    ((o0C L w h).view.loc (tV d L) ↦[(o0C L w h).view.set]{fullShare} f : sProp 𝕄) = q0Loc d ↦[(rect1 L r).set]{fullShare} f := by
  subst hw; rw [show (o0C L _ h).view.set = (rect1 L r).set from View.set_slice_whole _ _]
/-- The same of the second result. -/
theorem pts_o1C (r : Fin 3) (w : BitVec 32) (hw : w = BitVec.ofNat 32 (128 * r.val)) (h) (f : Buf (Elt F) (q1Loc d)) :
    ((o1C L w h).view.loc (tV d L) ↦[(o1C L w h).view.set]{fullShare} f : sProp 𝕄) = q1Loc d ↦[(rect1 L r).set]{fullShare} f := by
  subst hw; rw [show (o1C L _ h).view.set = (rect1 L r).set from View.set_slice_whole _ _]

/-- The first list's scratch, addressed either way. -/
theorem pts_laC (f : Buf (Elt F) ((tV d L).loc cc1_scratch0)) :
    ((laV).view.loc (tV d L) ↦{fullShare} f : sProp 𝕄) = (tV d L).loc cc1_scratch0 ↦{fullShare} f := rfl
/-- The second list's. -/
theorem pts_lbC (f : Buf (Elt F) ((tV d L).loc cc1_scratch1)) :
    ((lbV).view.loc (tV d L) ↦{fullShare} f : sProp 𝕄) = (tV d L).loc cc1_scratch1 ↦{fullShare} f := rfl
/-- The first table's rows' scratch. -/
theorem pts_raC (f : Buf (Elt F) ((tV d L).loc cc1_scratch2)) :
    ((raV).view.loc (tV d L) ↦{fullShare} f : sProp 𝕄) = (tV d L).loc cc1_scratch2 ↦{fullShare} f := rfl
/-- The second table's. -/
theorem pts_rbC (f : Buf (Elt F) ((tV d L).loc cc1_scratch3)) :
    ((rbV).view.loc (tV d L) ↦{fullShare} f : sProp 𝕄) = (tV d L).loc cc1_scratch3 ↦{fullShare} f := rfl

/-- The six semaphores of the second call's task, and the rest of the subcore's. -/
theorem sems1 {d : Dev nD} {c : Fin τ.nSC} {i : Fin τ.nSub} :
    (ownSems0 (V d c i) : sProp 𝕄)
      = iprop(semVal (sCell (V d c i) cc1_scratch4.sem) 0 ∗ semVal (sCell (V d c i) cc1_scratch5.sem) 0 ∗ semVal (sCell (V d c i) cc1_scratch6.sem) 0
          ∗ semVal (sCell (V d c i) cc1_scratch7.sem) 0 ∗ semVal (sCell (V d c i) cc1_scoped0.sem) 0 ∗ semVal (sCell (V d c i) cc1_scoped1.sem) 0
          ∗ bigSep (((((((ownCells (V d c i)).erase (sCell (V d c i) cc1_scratch4.sem)).erase (sCell (V d c i) cc1_scratch5.sem)).erase
              (sCell (V d c i) cc1_scratch6.sem)).erase (sCell (V d c i) cc1_scratch7.sem)).erase (sCell (V d c i) cc1_scoped0.sem)).erase
              (sCell (V d c i) cc1_scoped1.sem)) fun g => semVal g 0) := by
  unfold SparseCore.Cfg.ownSems0
  rw [sem_out _ cc1_scratch4.sem (mem_own _ (by decide)),
    sem_out _ cc1_scratch5.sem (Finset.mem_erase.mpr ⟨sCell_ne (by decide), mem_own _ (by decide)⟩),
    sem_out _ cc1_scratch6.sem (Finset.mem_erase.mpr ⟨sCell_ne (by decide), Finset.mem_erase.mpr ⟨sCell_ne (by decide), mem_own _ (by decide)⟩⟩),
    sem_out _ cc1_scratch7.sem (Finset.mem_erase.mpr ⟨sCell_ne (by decide), Finset.mem_erase.mpr ⟨sCell_ne (by decide),
      Finset.mem_erase.mpr ⟨sCell_ne (by decide), mem_own _ (by decide)⟩⟩⟩),
    sem_out _ cc1_scoped0.sem (Finset.mem_erase.mpr ⟨sCell_ne (by decide), Finset.mem_erase.mpr ⟨sCell_ne (by decide),
      Finset.mem_erase.mpr ⟨sCell_ne (by decide), Finset.mem_erase.mpr ⟨sCell_ne (by decide), mem_own _ (by decide)⟩⟩⟩⟩),
    sem_out _ cc1_scoped1.sem (Finset.mem_erase.mpr ⟨sCell_ne (by decide), Finset.mem_erase.mpr ⟨sCell_ne (by decide),
      Finset.mem_erase.mpr ⟨sCell_ne (by decide), Finset.mem_erase.mpr ⟨sCell_ne (by decide),
        Finset.mem_erase.mpr ⟨sCell_ne (by decide), mem_own _ (by decide)⟩⟩⟩⟩⟩)]

/-- The four scratch buffers of the second call's task, and the rest of the subcore's. -/
theorem bufs1 {d : Dev nD} {c : Fin τ.nSC} {i : Fin τ.nSub} :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f) ∗ (∃ f, (V d c i).loc cc1_scratch3 ↦{fullShare} f)
          ∗ bigSep (((((ownRefs (τ := τ) (.scVector c i)).erase ((Proc.scVector c i).devRef cc1_scratch0)).erase ((Proc.scVector c i).devRef cc1_scratch1)).erase
              ((Proc.scVector c i).devRef cc1_scratch2)).erase ((Proc.scVector c i).devRef cc1_scratch3))
              fun b => iprop(∃ f, ((d, b) : Loc nD τ sig) ↦{fullShare} f)) := by
  unfold SparseCore.Cfg.ownBufs
  rw [buf_out _ cc1_scratch0 (mem_refs _ rfl),
    buf_out _ cc1_scratch1 (Finset.mem_erase.mpr ⟨devRef_ne (by decide), mem_refs _ rfl⟩),
    buf_out _ cc1_scratch2 (Finset.mem_erase.mpr ⟨devRef_ne (by decide), Finset.mem_erase.mpr ⟨devRef_ne (by decide), mem_refs _ rfl⟩⟩),
    buf_out _ cc1_scratch3 (Finset.mem_erase.mpr ⟨devRef_ne (by decide), Finset.mem_erase.mpr ⟨devRef_ne (by decide),
      Finset.mem_erase.mpr ⟨devRef_ne (by decide), mem_refs _ rfl⟩⟩⟩)]

variable [FloatOps F]

/-- The words of an index list that the task copies, as the task addresses them. -/
abbrev aC (L : grid1.Coords) : Memref sig .scVector .hbm S384 .i32 := (aV).slice (Rect.unit (s := S16384) (k1_off1 L) S384.size (k1_off1_inb L)) (fun _ => rfl)
/-- The same of the second list. -/
abbrev bC (L : grid1.Coords) : Memref sig .scVector .hbm S384 .i32 := (bV).slice (Rect.unit (s := S16384) (k1_off1 L) S384.size (k1_off1_inb L)) (fun _ => rfl)
/-- A chunk of the lists in the task's scratch, from its word `o`, as its gathers read it. -/
abbrev laC (o : ℕ) (h : ∀ a, (![o] : Fin 1 → ℕ) a + S128.size a ≤ S384.size a) : Memref sig .scVector .vmem S128 .i32 :=
  (laV).slice (Rect.unit (s := S384) ![o] S128.size h) (fun _ => rfl)
/-- The same of the second list. -/
abbrev lbC (o : ℕ) (h : ∀ a, (![o] : Fin 1 → ℕ) a + S128.size a ≤ S384.size a) : Memref sig .scVector .vmem S128 .i32 :=
  (lbV).slice (Rect.unit (s := S384) ![o] S128.size h) (fun _ => rfl)

/-- Every word of a fetched list's chunk names a row of the table. -/
theorem in_aC (hpre : PreOK m) (o : ℕ) (h) (x : S128.Idx) :
    ((laC o h).view.read (Elt F) ((aC L).view.read (Elt F) (m (aLoc d))) x).toNat < 1000 := by
  rw [View.read_apply, cast_eq, View.read_apply, cast_eq]; exact (hpre d _).1
/-- The same of the second list. -/
theorem in_bC (hpre : PreOK m) (o : ℕ) (h) (x : S128.Idx) :
    ((lbC o h).view.read (Elt F) ((bC L).view.read (Elt F) (m (bLoc d))) x).toNat < 1000 := by
  rw [View.read_apply, cast_eq, View.read_apply, cast_eq]; exact (hpre d _).2

/-- The row that a chunk's gather from the first table delivers at `x` is the one the second call leaves there. -/
theorem picked_aC (r : Fin 3) (w : BitVec 32) (hw : w = BitVec.ofNat 32 (128 * r.val)) (h) (h') (x : S128x128.Idx) :
    cell ((eaK).view.read (Elt F) (m (eaLoc d)))
        (rowOf (word (n := 128) ((laC (128 * r.val) h').view.read (Elt F) ((aC L).view.read (Elt F) (m (aLoc d)))) ⟨(x 0).val, (x 0).isLt⟩))
        ⟨(x 1).val, (x 1).isLt⟩ = (o0C L w h).view.read (Elt F) (GQ0 m d) x := by
  subst hw
  rw [View.read_apply, cast_eq]
  refine cell_congr (read_eaK _) ?_ ?_
  · unfold word
    rw [View.read_apply, cast_eq, View.read_apply, cast_eq]
    refine at_congr (n := 16384) (m (aLoc d)) ?_
    show k1_off1 L 0 + 1 * (128 * r.val + 1 * (x 0).val) = (k1_off2 L (BitVec.ofNat 32 (128 * r.val)) 0 + 1 * (x 0).val) + 4096
    rw [k1_off1_eq, k1_off2_eq]
    show 768 * (L 1).val + 384 * (L 0).val + 4096 + _ = 768 * (L 1).val + 384 * (L 0).val + 128 * r.val + _ + 4096; omega
  · show (x 1).val = k1_off2 L (BitVec.ofNat 32 (128 * r.val)) 1 + 1 * (x 1).val
    rw [k1_off2_eq]; show (x 1).val = 0 + 1 * (x 1).val; omega

/-- The row that a chunk's gather from the second table delivers at `x` is the one the second call leaves there. -/
theorem picked_bC (r : Fin 3) (w : BitVec 32) (hw : w = BitVec.ofNat 32 (128 * r.val)) (h) (h') (x : S128x128.Idx) :
    cell ((ebK).view.read (Elt F) (m (ebLoc d)))
        (rowOf (word (n := 128) ((lbC (128 * r.val) h').view.read (Elt F) ((bC L).view.read (Elt F) (m (bLoc d)))) ⟨(x 0).val, (x 0).isLt⟩))
        ⟨(x 1).val, (x 1).isLt⟩ = (o1C L w h).view.read (Elt F) (GQ1 m d) x := by
  subst hw
  rw [View.read_apply, cast_eq]
  refine cell_congr (read_ebK _) ?_ ?_
  · unfold word
    rw [View.read_apply, cast_eq, View.read_apply, cast_eq]
    refine at_congr (n := 16384) (m (bLoc d)) ?_
    show k1_off1 L 0 + 1 * (128 * r.val + 1 * (x 0).val) = (k1_off2 L (BitVec.ofNat 32 (128 * r.val)) 0 + 1 * (x 0).val) + 4096
    rw [k1_off1_eq, k1_off2_eq]
    show 768 * (L 1).val + 384 * (L 0).val + 4096 + _ = 768 * (L 1).val + 384 * (L 0).val + 128 * r.val + _ + 4096; omega
  · show (x 1).val = k1_off2 L (BitVec.ofNat 32 (128 * r.val)) 1 + 1 * (x 1).val
    rw [k1_off2_eq]; show (x 1).val = 0 + 1 * (x 1).val; omega

set_option maxHeartbeats 4000000 in
/-- A task of the second call, from its share of the four arrays and its rows of the two results at any contents, leaves
    those rows at the rows of the tables that its words name. -/
theorem tile1_body (hF : (K (F := F)).Facts) (hpre : PreOK m) (O : CellTallies nD τ sig (HIx 2)) (W : Waits sig (HIx 2)) (hO : ∀ g, O g none = 0) :
    iprop(levAts (K (F := F)).L (K (F := F)).lev ∗ emp ∗ in1 m d L
        ∗ scopedBufs (tV d L) ∗ scopedSems0 (tV d L) ∗ owes (tV d L) O W)
      ⊢ wp frame (wpE (defs₀ (F := F)) 𝒱₀ (tV d L) none) Set.univ
          (cc1_body L aV (Memref.isWhole_whole _) bV (Memref.isWhole_whole _) eaV (Memref.isWhole_whole _) ebV (Memref.isWhole_whole _)
            q0V (Memref.isWhole_whole _) q1V (Memref.isWhole_whole _) laV (Memref.isWhole_whole _) lbV (Memref.isWhole_whole _)
            raV (Memref.isWhole_whole _) rbV (Memref.isWhole_whole _) cc1_scratch4 cc1_scratch5 cc1_scratch6 cc1_scratch7 cc1_scoped0 cc1_scoped1)
          fun _ => iprop(out1 m d L
            ∗ scopedBufs (tV d L) ∗ scopedSems0 (tV d L)
            ∗ ∃ W', ⌜∀ p ∈ W', p ∈ W ∨ p.2 = none⌝ ∗ owes (tV d L) O W') := by
  simp only [cc1_body_eq_skeleton]; unfold cc1_body_skel
  simp only [k1_part1_eq_skeleton]; unfold k1_part1_skel
  simp only [k1_part2_eq_skeleton]; unfold k1_part2_skel
  rw [(K (F := F)).scopedBufs_V hF d (cV L) (jV L), SparseCore.Cfg.scopedSems0_V (Val := Elt F) d (cV L) (jV L), sems1, bufs1]
  iintro ⟨#Hlv, -, ⟨⟨Ha, Hb, Hea, Heb⟩, ⟨Ho0, Ho1⟩, ⟨Hp0, Hp1⟩, ⟨Hr0, Hr1⟩⟩, ⟨⟨%fla, Hla⟩, ⟨%flb, Hlb⟩, ⟨%fra, Hra⟩, ⟨%frb, Hrb⟩, Hbufs⟩, ⟨Hs4, Hs5, Hs6, Hs7, Hs0, Hs1, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Ha' := (Entails.of_eq (pts_aV (F := F) d L _ _).symm) $$ Ha
  ihave Hb' := (Entails.of_eq (pts_bV (F := F) d L _ _).symm) $$ Hb
  ihave Hea' := (Entails.of_eq (pts_eaV (F := F) d L _ _).symm) $$ Hea
  ihave Heb' := (Entails.of_eq (pts_ebV (F := F) d L _ _).symm) $$ Heb
  ihave Ho0' := (Entails.of_eq (pts_o0C (F := F) d L 0 0#32 rfl (k1_off2_inb L 0) _).symm) $$ Ho0
  ihave Ho1' := (Entails.of_eq (pts_o1C (F := F) d L 0 0#32 rfl (k1_off2_inb L 0) _).symm) $$ Ho1
  ihave Hp0' := (Entails.of_eq (pts_o0C (F := F) d L 1 128#32 rfl (k1_off2_inb L 1) _).symm) $$ Hp0
  ihave Hp1' := (Entails.of_eq (pts_o1C (F := F) d L 1 128#32 rfl (k1_off2_inb L 1) _).symm) $$ Hp1
  ihave Hr0' := (Entails.of_eq (pts_o0C (F := F) d L 2 256#32 rfl (k1_off2_inb L 2) _).symm) $$ Hr0
  ihave Hr1' := (Entails.of_eq (pts_o1C (F := F) d L 2 256#32 rfl (k1_off2_inb L 2) _).symm) $$ Hr1
  ihave Hla' := (Entails.of_eq (pts_laC (F := F) d L _).symm) $$ Hla
  ihave Hlb' := (Entails.of_eq (pts_lbC (F := F) d L _).symm) $$ Hlb
  ihave Hra' := (Entails.of_eq (pts_raC (F := F) d L _).symm) $$ Hra
  ihave Hrb' := (Entails.of_eq (pts_rbC (F := F) d L _).symm) $$ Hrb
  sl_exec
  have hwa : View.write (Elt F) (laV).view fla (tile1_body.sl.dma0 m d L) Finset.univ = (aC L).view.read (Elt F) (m (aLoc d)) := View.write_whole_univ _ _ _
  have hwb : View.write (Elt F) (lbV).view flb (tile1_body.sl.dma0_1 m d L) Finset.univ = (bC L).view.read (Elt F) (m (bLoc d)) := View.write_whole_univ _ _ _
  rw [hwa, hwb]
  have ha0 := in_aC m d L hpre 0 inb_S384_S128_0
  have ha1 := in_aC m d L hpre 128 inb_S384_S128_128
  have ha2 := in_aC m d L hpre 256 inb_S384_S128_256
  have hb0 := in_bC m d L hpre 0 inb_S384_S128_0
  have hb1 := in_bC m d L hpre 128 inb_S384_S128_128
  have hb2 := in_bC m d L hpre 256 inb_S384_S128_256
  revert ha0 ha1 ha2 hb0 hb1 hb2
  generalize hlA : (aC L).view.read (Elt F) (m (aLoc d)) = lA
  generalize hlB : (bC L).view.read (Elt F) (m (bLoc d)) = lB
  intro ha0 ha1 ha2 hb0 hb1 hb2
  sl_exec
  have ho0 : ∀ i ∈ (o0C L 0#32 (k1_off2_inb L 0)).view.set, (o0C L 0#32 (k1_off2_inb L 0)).view.writes (Elt F) (m (q0Loc d))
      [⟨Rect.whole S128x128, tile1_body.sl.dma0_2 m d L fra lA ha0⟩] i = GQ0 m d i := by
    subst hlA
    exact landed (F := F) _ _ _ _ fun x => (congrFun (read_landed (F := F) _ _ _ _) x).trans ((gather_cell _ _ _ _ x).trans (picked_aC m d L 0 0#32 rfl _ inb_S384_S128_0 x))
  have ho1 : ∀ i ∈ (o1C L 0#32 (k1_off2_inb L 0)).view.set, (o1C L 0#32 (k1_off2_inb L 0)).view.writes (Elt F) (m (q1Loc d))
      [⟨Rect.whole S128x128, tile1_body.sl.dma0_3 m d L frb lB hb0⟩] i = GQ1 m d i := by
    subst hlB
    exact landed (F := F) _ _ _ _ fun x => (congrFun (read_landed (F := F) _ _ _ _) x).trans ((gather_cell _ _ _ _ x).trans (picked_bC m d L 0 0#32 rfl _ inb_S384_S128_0 x))
  have hp0 : ∀ i ∈ (o0C L 128#32 (k1_off2_inb L 1)).view.set, (o0C L 128#32 (k1_off2_inb L 1)).view.writes (Elt F) (m (q0Loc d))
      [⟨Rect.whole S128x128, tile1_body.sl.dma0_4 m d L fra lA ha0 ha1⟩] i = GQ0 m d i := by
    subst hlA
    exact landed (F := F) _ _ _ _ fun x => (congrFun (read_landed (F := F) _ _ _ _) x).trans ((gather_cell _ _ _ _ x).trans (picked_aC m d L 1 128#32 rfl _ inb_S384_S128_128 x))
  have hp1 : ∀ i ∈ (o1C L 128#32 (k1_off2_inb L 1)).view.set, (o1C L 128#32 (k1_off2_inb L 1)).view.writes (Elt F) (m (q1Loc d))
      [⟨Rect.whole S128x128, tile1_body.sl.dma0_5 m d L frb lB hb0 hb1⟩] i = GQ1 m d i := by
    subst hlB
    exact landed (F := F) _ _ _ _ fun x => (congrFun (read_landed (F := F) _ _ _ _) x).trans ((gather_cell _ _ _ _ x).trans (picked_bC m d L 1 128#32 rfl _ inb_S384_S128_128 x))
  have hr0 : ∀ i ∈ (o0C L 256#32 (k1_off2_inb L 2)).view.set, (o0C L 256#32 (k1_off2_inb L 2)).view.writes (Elt F) (m (q0Loc d))
      [⟨Rect.whole S128x128, tile1_body.sl.dma0_6 m d L fra lA ha0 ha1 ha2⟩] i = GQ0 m d i := by
    subst hlA
    exact landed (F := F) _ _ _ _ fun x => (congrFun (read_landed (F := F) _ _ _ _) x).trans ((gather_cell _ _ _ _ x).trans (picked_aC m d L 2 256#32 rfl _ inb_S384_S128_256 x))
  have hr1 : ∀ i ∈ (o1C L 256#32 (k1_off2_inb L 2)).view.set, (o1C L 256#32 (k1_off2_inb L 2)).view.writes (Elt F) (m (q1Loc d))
      [⟨Rect.whole S128x128, tile1_body.sl.dma0_7 m d L frb lB hb0 hb1 hb2⟩] i = GQ1 m d i := by
    subst hlB
    exact landed (F := F) _ _ _ _ fun x => (congrFun (read_landed (F := F) _ _ _ _) x).trans ((gather_cell _ _ _ _ x).trans (picked_bC m d L 2 256#32 rfl _ inb_S384_S128_256 x))
  rw [wp_ret]; imodintro
  isplitl [Ha' Hb' Hea' Heb' Ho0' Ho1' Hp0' Hp1' Hr0' Hr1']
  · isplitl [Ha' Hb' Hea' Heb']
    · isplitl [Ha']; · iexact Ha'
      isplitl [Hb']; · iexact Hb'
      isplitl [Hea']; · iexact Hea'
      iexact Heb'
    · isplitl [Ho0' Ho1']
      · isplitl [Ho0']
        · iapply ((Entails.of_eq (pointsTo_congr ho0)).trans (Entails.of_eq (pts_o0C (F := F) d L 0 0#32 rfl (k1_off2_inb L 0) _))) $$ Ho0'
        · iapply ((Entails.of_eq (pointsTo_congr ho1)).trans (Entails.of_eq (pts_o1C (F := F) d L 0 0#32 rfl (k1_off2_inb L 0) _))) $$ Ho1'
      isplitl [Hp0' Hp1']
      · isplitl [Hp0']
        · iapply ((Entails.of_eq (pointsTo_congr hp0)).trans (Entails.of_eq (pts_o0C (F := F) d L 1 128#32 rfl (k1_off2_inb L 1) _))) $$ Hp0'
        · iapply ((Entails.of_eq (pointsTo_congr hp1)).trans (Entails.of_eq (pts_o1C (F := F) d L 1 128#32 rfl (k1_off2_inb L 1) _))) $$ Hp1'
      isplitl [Hr0']
      · iapply ((Entails.of_eq (pointsTo_congr hr0)).trans (Entails.of_eq (pts_o0C (F := F) d L 2 256#32 rfl (k1_off2_inb L 2) _))) $$ Hr0'
      · iapply ((Entails.of_eq (pointsTo_congr hr1)).trans (Entails.of_eq (pts_o1C (F := F) d L 2 256#32 rfl (k1_off2_inb L 2) _))) $$ Hr1'
  isplitl [Hla' Hlb' Hra' Hrb' Hbufs]
  · isplitl [Hla']; · iexists _; iexact Hla'
    isplitl [Hlb']; · iexists _; iexact Hlb'
    isplitl [Hra']; · iexists _; iexact Hra'
    isplitl [Hrb']; · iexists _; iexact Hrb'
    iexact Hbufs
  isplitl [Hs4 Hs5 Hs6 Hs7 Hs0 Hs1 Hsems]
  · isplitl [Hs4]; · iexact Hs4
    isplitl [Hs5]; · iexact Hs5
    isplitl [Hs6]; · iexact Hs6
    isplitl [Hs7]; · iexact Hs7
    isplitl [Hs0]; · iexact Hs0
    isplitl [Hs1]; · iexact Hs1
    iexact Hsems
  iexists _; isplitr
  swap; · iexact HO
  ipureintro; intro p hp
  iterate 14 rcases Finset.mem_insert.mp hp with hp | hp; · exact .inr (hp ▸ rfl)
  exact .inl hp

end Tile

end Cert.KernelIdeal.Pf

end
-- ==== Proof.KI.Calls.lean ====
/-
  The two calls as the launch uses them: each task meets its obligation, and the arrays, whole, are the tasks' shares
  and rows together.
-/
module

public import proofs.«01_k».proof.Proof.KI.Tile1

@[expose] public section

noncomputable section

namespace Cert.KernelIdeal.Pf

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ)

local notation "aV" => (Memref.whole Cert.KernelIdeal.main_arg0_scv : Memref Cert.KernelIdeal.sig Kind.scVector Space.hbm Cert.KernelIdeal.S16384 EltTy.i32)
local notation "bV" => (Memref.whole Cert.KernelIdeal.main_arg1_scv : Memref Cert.KernelIdeal.sig Kind.scVector Space.hbm Cert.KernelIdeal.S16384 EltTy.i32)
local notation "eaV" => (Memref.whole Cert.KernelIdeal.main_arg2_scv : Memref Cert.KernelIdeal.sig Kind.scVector Space.hbm Cert.KernelIdeal.S1000x128 EltTy.f32)
local notation "ebV" => (Memref.whole Cert.KernelIdeal.main_arg3_scv : Memref Cert.KernelIdeal.sig Kind.scVector Space.hbm Cert.KernelIdeal.S1000x128 EltTy.f32)
local notation "p0V" => (Memref.whole Cert.KernelIdeal.main_v2_0_scv : Memref Cert.KernelIdeal.sig Kind.scVector Space.hbm Cert.KernelIdeal.S4096x128 EltTy.f32)
local notation "p1V" => (Memref.whole Cert.KernelIdeal.main_v2_1_scv : Memref Cert.KernelIdeal.sig Kind.scVector Space.hbm Cert.KernelIdeal.S4096x128 EltTy.f32)
local notation "laV" => (Memref.whole Cert.KernelIdeal.cc0_scratch0 : Memref Cert.KernelIdeal.sig Kind.scVector Space.vmem Cert.KernelIdeal.S128 EltTy.i32)
local notation "lbV" => (Memref.whole Cert.KernelIdeal.cc0_scratch1 : Memref Cert.KernelIdeal.sig Kind.scVector Space.vmem Cert.KernelIdeal.S128 EltTy.i32)
local notation "raV" => (Memref.whole Cert.KernelIdeal.cc0_scratch2 : Memref Cert.KernelIdeal.sig Kind.scVector Space.vmem Cert.KernelIdeal.S128x128 EltTy.f32)
local notation "rbV" => (Memref.whole Cert.KernelIdeal.cc0_scratch3 : Memref Cert.KernelIdeal.sig Kind.scVector Space.vmem Cert.KernelIdeal.S128x128 EltTy.f32)
local notation "q0V" => (Memref.whole Cert.KernelIdeal.main_v3_0_scv : Memref Cert.KernelIdeal.sig Kind.scVector Space.hbm Cert.KernelIdeal.S12288x128 EltTy.f32)
local notation "q1V" => (Memref.whole Cert.KernelIdeal.main_v3_1_scv : Memref Cert.KernelIdeal.sig Kind.scVector Space.hbm Cert.KernelIdeal.S12288x128 EltTy.f32)
local notation "laW" => (Memref.whole Cert.KernelIdeal.cc1_scratch0 : Memref Cert.KernelIdeal.sig Kind.scVector Space.vmem Cert.KernelIdeal.S384 EltTy.i32)
local notation "lbW" => (Memref.whole Cert.KernelIdeal.cc1_scratch1 : Memref Cert.KernelIdeal.sig Kind.scVector Space.vmem Cert.KernelIdeal.S384 EltTy.i32)
local notation "raW" => (Memref.whole Cert.KernelIdeal.cc1_scratch2 : Memref Cert.KernelIdeal.sig Kind.scVector Space.vmem Cert.KernelIdeal.S128x128 EltTy.f32)
local notation "rbW" => (Memref.whole Cert.KernelIdeal.cc1_scratch3 : Memref Cert.KernelIdeal.sig Kind.scVector Space.vmem Cert.KernelIdeal.S128x128 EltTy.f32)

section Obligations

variable [FloatOps F]

/-- What a task's body leaves is what the launch asks of it. -/
theorem post_of {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; intro p hp
    rcases hW' p hp with h | h
    · exact .inl h
    · exact .inr (.inl h)
  · iexact HO

/-- What the first call runs on a vector subcore is its body, at that subcore's coordinates. -/
theorem body0_at (c : Fin τ.nSC) (s : Fin τ.nSub) :
    defs₀ (F := F) (.scVector c s) 0 ()
      = SparseCore.onTile hcore0 hsub0 (fun c s => cc0_body (coordsV c s) aV (Memref.isWhole_whole _) bV (Memref.isWhole_whole _)
          eaV (Memref.isWhole_whole _) ebV (Memref.isWhole_whole _) p0V (Memref.isWhole_whole _) p1V (Memref.isWhole_whole _)
          laV (Memref.isWhole_whole _) lbV (Memref.isWhole_whole _) raV (Memref.isWhole_whole _) rbV (Memref.isWhole_whole _)
          cc0_scratch4 cc0_scratch5 cc0_scratch6 cc0_scratch7 cc0_scoped0 cc0_scoped1) ⟨⟩ c s := rfl

/-- The same of the second call. -/
theorem body1_at (c : Fin τ.nSC) (s : Fin τ.nSub) :
    defs₀ (F := F) (.scVector c s) 1 ()
      = SparseCore.onTile hcore1 hsub1 (fun c s => cc1_body (coordsV c s) aV (Memref.isWhole_whole _) bV (Memref.isWhole_whole _)
          eaV (Memref.isWhole_whole _) ebV (Memref.isWhole_whole _) q0V (Memref.isWhole_whole _) q1V (Memref.isWhole_whole _)
          laW (Memref.isWhole_whole _) lbW (Memref.isWhole_whole _) raW (Memref.isWhole_whole _) rbW (Memref.isWhole_whole _)
          cc1_scratch4 cc1_scratch5 cc1_scratch6 cc1_scratch7 cc1_scoped0 cc1_scoped1) ⟨⟩ c s := rfl

set_option maxRecDepth 16384 in
/-- Every task of call 0 meets its obligation. -/
theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body0_at]; simp only [SparseCore.onTile, hci, and_self, ↓reduceDIte]
  exact (tile0_body m d (coordsV ⟨_, hci.1⟩ ⟨_, hci.2⟩) hF hpre O W hO).trans (wp_mono frame _ _ fun _ => post_of)

set_option maxRecDepth 16384 in
/-- Every task of call 1 meets its obligation. -/
theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [body1_at]; simp only [SparseCore.onTile, hci, and_self, ↓reduceDIte]
  exact (tile1_body m d (coordsV ⟨_, hci.1⟩ ⟨_, hci.2⟩) hF hpre O W hO).trans (wp_mono frame _ _ fun _ => post_of)

end Obligations

/-! ## The arrays, whole, as the tasks' -/

/-- The thirty-two tasks: a SparseCore and a vector subcore. -/
abbrev TK : Type := (_ : Fin 2) × Fin 16

/-- Something for every task is, for every SparseCore, that something for each of its sixteen subcores. -/
theorem tasks_nest (Φ : TK → sProp 𝕄) :
    bigSep Finset.univ Φ = bigSep Finset.univ fun c : Fin 2 => bigSep Finset.univ fun i : Fin 16 => Φ ⟨c, i⟩ := by
  rw [← Finset.univ_sigma_univ]
  exact Pipeline.bigSep_sigma _ _ _

/-- A read-only array, whole, is the thirty-two shares of it. -/
theorem shares (ℓ : Loc nD τ sig) (f : Buf (Elt F) ℓ) :
    (ℓ ↦{fullShare} f : sProp 𝕄) = bigSep Finset.univ fun t : TK => ℓ ↦{tq (coordsV t.1 t.2)} f := by
  rw [pointsTo_piecesOf Finset.univ f (show 0 < 2 * 16 by decide) fullShare]
  exact bigSep_univ_equiv ((Equiv.sigmaEquivProd (Fin 2) (Fin 16)).trans finProdFinEquiv) _

/-- An element is in a task's rows of the first call's outputs when its row is among the task's 128. -/
theorem mem_rect0 (c : Fin 2) (i : Fin 16) (x : S4096x128.Idx) :
    x ∈ (rect0 (coordsV c i)).set ↔ 256 * i.val + 128 * c.val ≤ (x 0).val ∧ (x 0).val < 256 * i.val + 128 * c.val + 128 := by
  rw [Rect.mem_set_unit, k0_off2_eq]
  have h1 : (x 1).val < 128 := (x 1).isLt
  constructor
  · intro h; exact h 0
  · intro h a
    match a with
    | 0 => exact h
    | 1 => exact ⟨Nat.zero_le _, by show (x 1).val < 0 + 128; omega⟩

/-- An element is in a task's rows of chunk `r` of the second call's outputs when its row is among that chunk's 128. -/
theorem mem_rect1 (c : Fin 2) (i : Fin 16) (r : Fin 3) (x : S12288x128.Idx) :
    x ∈ (rect1 (coordsV c i) r).set ↔ 768 * i.val + 384 * c.val + 128 * r.val ≤ (x 0).val ∧ (x 0).val < 768 * i.val + 384 * c.val + 128 * r.val + 128 := by
  rw [Rect.mem_set_unit, k1_off2_eq]
  have h1 : (x 1).val < 128 := (x 1).isLt
  constructor
  · intro h; exact h 0
  · intro h a
    match a with
    | 0 => exact h
    | 1 => exact ⟨Nat.zero_le _, by show (x 1).val < 0 + 128; omega⟩

/-- The tasks' rows of the first call's results are disjoint, -/
theorem rect0_disjoint (t u : TK) (h : t ≠ u) : Disjoint (rect0 (coordsV t.1 t.2)).set (rect0 (coordsV u.1 u.2)).set := by
  obtain ⟨c, i⟩ := t
  obtain ⟨c', i'⟩ := u
  rw [Finset.disjoint_left]
  intro x hx hy
  rw [mem_rect0] at hx hy
  dsimp only at hx hy
  have hc : c = c' := Fin.ext (by omega)
  have hi : i = i' := Fin.ext (by omega)
  exact h (by rw [hc, hi])

/-- and are all the rows. -/
theorem rect0_cover : ((Finset.univ : Finset TK).biUnion fun t => (rect0 (coordsV t.1 t.2)).set) = Finset.univ := by
  rw [Finset.eq_univ_iff_forall]
  intro x
  have h : (x 0).val < 4096 := (x 0).isLt
  refine Finset.mem_biUnion.mpr ⟨⟨⟨(x 0).val / 128 % 2, by omega⟩, ⟨(x 0).val / 256, by omega⟩⟩, Finset.mem_univ _, ?_⟩
  rw [mem_rect0]
  dsimp only
  omega

/-- The chunks of the tasks' rows of the second call's results are disjoint, -/
theorem rect1_disjoint (t u : (_ : TK) × Fin 3) (h : t ≠ u) :
    Disjoint (rect1 (coordsV t.1.1 t.1.2) t.2).set (rect1 (coordsV u.1.1 u.1.2) u.2).set := by
  obtain ⟨⟨c, i⟩, r⟩ := t
  obtain ⟨⟨c', i'⟩, r'⟩ := u
  rw [Finset.disjoint_left]
  intro x hx hy
  rw [mem_rect1] at hx hy
  dsimp only at hx hy
  have hc : c = c' := Fin.ext (by omega)
  have hi : i = i' := Fin.ext (by omega)
  have hr : r = r' := Fin.ext (by omega)
  exact h (by rw [hc, hi, hr])

/-- and are all the rows. -/
theorem rect1_cover : ((Finset.univ : Finset ((_ : TK) × Fin 3)).biUnion fun t => (rect1 (coordsV t.1.1 t.1.2) t.2).set) = Finset.univ := by
  rw [Finset.eq_univ_iff_forall]
  intro x
  have h : (x 0).val < 12288 := (x 0).isLt
  refine Finset.mem_biUnion.mpr ⟨⟨⟨⟨(x 0).val / 384 % 2, by omega⟩, ⟨(x 0).val / 768, by omega⟩⟩, ⟨(x 0).val / 128 % 3, by omega⟩⟩, Finset.mem_univ _, ?_⟩
  rw [mem_rect1]
  dsimp only
  omega

/-- A result of the first call, whole, is the tasks' rows of it. -/
theorem whole_p0 (d : Dev nD) (f : Buf (Elt F) (p0Loc d)) :
    (p0Loc d ↦{fullShare} f : sProp 𝕄) = bigSep Finset.univ fun t : TK => p0Loc d ↦[(rect0 (coordsV t.1 t.2)).set]{fullShare} f := by
  rw [← pointsTo_biUnion Finset.univ (ℓ := p0Loc d) (fun t : TK => (rect0 (coordsV t.1 t.2)).set) (fun t _ u _ h => rect0_disjoint t u h), rect0_cover]
/-- The same of the other result. -/
theorem whole_p1 (d : Dev nD) (f : Buf (Elt F) (p1Loc d)) :
    (p1Loc d ↦{fullShare} f : sProp 𝕄) = bigSep Finset.univ fun t : TK => p1Loc d ↦[(rect0 (coordsV t.1 t.2)).set]{fullShare} f := by
  rw [← pointsTo_biUnion Finset.univ (ℓ := p1Loc d) (fun t : TK => (rect0 (coordsV t.1 t.2)).set) (fun t _ u _ h => rect0_disjoint t u h), rect0_cover]

/-- Something for each of three is the first's, the second's and the third's. -/
theorem three (Φ : Fin 3 → sProp 𝕄) : bigSep Finset.univ Φ = iprop(Φ 0 ∗ Φ 1 ∗ Φ 2) := by
  rw [show (Finset.univ : Finset (Fin 3)) = {0, 1, 2} from by decide, SparseCore.bigSep_insert' (by decide), SparseCore.bigSep_insert' (by decide), bigSep_singleton]

/-- Something for every chunk is, for every task, that of its three chunks. -/
theorem chunks_nest (Φ : (_ : TK) × Fin 3 → sProp 𝕄) :
    bigSep Finset.univ Φ = bigSep Finset.univ fun t : TK => iprop(Φ ⟨t, 0⟩ ∗ Φ ⟨t, 1⟩ ∗ Φ ⟨t, 2⟩) := by
  rw [← Finset.univ_sigma_univ]
  refine (Pipeline.bigSep_sigma _ _ _).trans (bigSep_congr fun t _ => three fun r => Φ ⟨t, r⟩)

/-- A result of the second call, whole, is the tasks' three chunks of rows of it. -/
theorem whole_q0 (d : Dev nD) (f : Buf (Elt F) (q0Loc d)) :
    (q0Loc d ↦{fullShare} f : sProp 𝕄) = bigSep Finset.univ fun t : TK => iprop((q0Loc d ↦[(rect1 (coordsV t.1 t.2) 0).set]{fullShare} f)
      ∗ (q0Loc d ↦[(rect1 (coordsV t.1 t.2) 1).set]{fullShare} f) ∗ (q0Loc d ↦[(rect1 (coordsV t.1 t.2) 2).set]{fullShare} f)) := by
  rw [← chunks_nest (fun t => (q0Loc d ↦[(rect1 (coordsV t.1.1 t.1.2) t.2).set]{fullShare} f : sProp 𝕄)),
    ← pointsTo_biUnion Finset.univ (ℓ := q0Loc d) (fun t : (_ : TK) × Fin 3 => (rect1 (coordsV t.1.1 t.1.2) t.2).set) (fun t _ u _ h => rect1_disjoint t u h),
    rect1_cover]
/-- The same of the other result. -/
theorem whole_q1 (d : Dev nD) (f : Buf (Elt F) (q1Loc d)) :
    (q1Loc d ↦{fullShare} f : sProp 𝕄) = bigSep Finset.univ fun t : TK => iprop((q1Loc d ↦[(rect1 (coordsV t.1 t.2) 0).set]{fullShare} f)
      ∗ (q1Loc d ↦[(rect1 (coordsV t.1 t.2) 1).set]{fullShare} f) ∗ (q1Loc d ↦[(rect1 (coordsV t.1 t.2) 2).set]{fullShare} f)) := by
  rw [← chunks_nest (fun t => (q1Loc d ↦[(rect1 (coordsV t.1.1 t.1.2) t.2).set]{fullShare} f : sProp 𝕄)),
    ← pointsTo_biUnion Finset.univ (ℓ := q1Loc d) (fun t : (_ : TK) × Fin 3 => (rect1 (coordsV t.1.1 t.1.2) t.2).set) (fun t _ u _ h => rect1_disjoint t u h),
    rect1_cover]

/-- The four read-only arrays, whole. -/
abbrev tables (d : Dev nD) : sProp 𝕄 :=
  iprop((aLoc d ↦{fullShare} m (aLoc d)) ∗ (bLoc d ↦{fullShare} m (bLoc d)) ∗ (eaLoc d ↦{fullShare} m (eaLoc d)) ∗ (ebLoc d ↦{fullShare} m (ebLoc d)))

/-- The four read-only arrays, whole, are the tasks' shares of them. -/
theorem tables_eq (d : Dev nD) : (tables m d : sProp 𝕄) = bigSep Finset.univ fun t : TK => tabs m d (coordsV t.1 t.2) := by
  unfold tables tabs
  rw [bigSep_sep', bigSep_sep', bigSep_sep', ← shares, ← shares, ← shares, ← shares]

/-- Three pairs are a pair of triples. -/
theorem zip3 (A B C A' B' C' : sProp 𝕄) : iprop((A ∗ A') ∗ (B ∗ B') ∗ (C ∗ C')) = iprop((A ∗ B ∗ C) ∗ (A' ∗ B' ∗ C')) := by
  refine equiv_iff.mp ⟨?_, ?_⟩
  · show iprop((A ∗ A') ∗ (B ∗ B') ∗ (C ∗ C')) ⊢ iprop((A ∗ B ∗ C) ∗ (A' ∗ B' ∗ C'))
    iintro ⟨⟨H1, H2⟩, ⟨H3, H4⟩, H5, H6⟩
    isplitl [H1 H3 H5]
    · isplitl [H1]; · iexact H1
      isplitl [H3]; · iexact H3
      iexact H5
    · isplitl [H2]; · iexact H2
      isplitl [H4]; · iexact H4
      iexact H6
  · show iprop((A ∗ B ∗ C) ∗ (A' ∗ B' ∗ C')) ⊢ iprop((A ∗ A') ∗ (B ∗ B') ∗ (C ∗ C'))
    iintro ⟨⟨H1, H3, H5⟩, H2, H4, H6⟩
    isplitl [H1 H2]
    · isplitl [H1]; · iexact H1
      iexact H2
    · isplitl [H3 H4]
      · isplitl [H3]; · iexact H3
        iexact H4
      · isplitl [H5]; · iexact H5
        iexact H6

/-- The first call's tasks' shares and rows at any contents, together. -/
theorem join0 (d : Dev nD) (f : Buf (Elt F) (p0Loc d)) (g : Buf (Elt F) (p1Loc d)) :
    (bigSep Finset.univ fun c : Fin 2 => bigSep Finset.univ fun i : Fin 16 => iprop(tabs m d (coordsV c i) ∗ rows0 d (coordsV c i) f g))
      = (iprop(tables m d ∗ (p0Loc d ↦{fullShare} f) ∗ (p1Loc d ↦{fullShare} g)) : sProp 𝕄) := by
  rw [← tasks_nest fun t : TK => iprop(tabs m d (coordsV t.1 t.2) ∗ rows0 d (coordsV t.1 t.2) f g), bigSep_sep' Finset.univ (fun t : TK => tabs m d (coordsV t.1 t.2)),
    bigSep_sep' Finset.univ (fun t : TK => iprop(p0Loc d ↦[(rect0 (coordsV t.1 t.2)).set]{fullShare} f)), ← tables_eq, ← whole_p0, ← whole_p1]

/-- The second call's tasks' shares and rows at any contents, together. -/
theorem join1 (d : Dev nD) (f : Buf (Elt F) (q0Loc d)) (g : Buf (Elt F) (q1Loc d)) :
    (bigSep Finset.univ fun c : Fin 2 => bigSep Finset.univ fun i : Fin 16 =>
        iprop(tabs m d (coordsV c i) ∗ rows1 d (coordsV c i) 0 f g ∗ rows1 d (coordsV c i) 1 f g ∗ rows1 d (coordsV c i) 2 f g))
      = (iprop(tables m d ∗ (q0Loc d ↦{fullShare} f) ∗ (q1Loc d ↦{fullShare} g)) : sProp 𝕄) := by
  rw [← tasks_nest fun t : TK => iprop(tabs m d (coordsV t.1 t.2) ∗ rows1 d (coordsV t.1 t.2) 0 f g ∗ rows1 d (coordsV t.1 t.2) 1 f g ∗ rows1 d (coordsV t.1 t.2) 2 f g),
    bigSep_sep' Finset.univ (fun t : TK => tabs m d (coordsV t.1 t.2)), ← tables_eq, whole_q0, whole_q1, ← bigSep_sep']
  congr 1
  exact bigSep_congr fun t _ => zip3 _ _ _ _ _ _

/-- What the first call takes: the four read-only arrays and its outputs, whole, as at launch. -/
theorem st0_eq (d : Dev nD) : (bigSep Finset.univ fun c : Fin ((K (F := F)).nCore 0) => (P m).st 0 d c)
    = iprop(tables m d ∗ (p0Loc d ↦{fullShare} m (p0Loc d)) ∗ (p1Loc d ↦{fullShare} m (p1Loc d))) := join0 m d _ _
/-- What it gives back: the same with the looked-up rows in its outputs. -/
theorem dn0_eq (d : Dev nD) : (bigSep Finset.univ fun c : Fin ((K (F := F)).nCore 0) => (P m).dn 0 d c)
    = iprop(tables m d ∗ (p0Loc d ↦{fullShare} GP0 m d) ∗ (p1Loc d ↦{fullShare} GP1 m d)) := join0 m d _ _
/-- What the second call takes. -/
theorem st1_eq (d : Dev nD) : (bigSep Finset.univ fun c : Fin ((K (F := F)).nCore 1) => (P m).st 1 d c)
    = iprop(tables m d ∗ (q0Loc d ↦{fullShare} m (q0Loc d)) ∗ (q1Loc d ↦{fullShare} m (q1Loc d))) := join1 m d _ _
/-- What it gives back. -/
theorem dn1_eq (d : Dev nD) : (bigSep Finset.univ fun c : Fin ((K (F := F)).nCore 1) => (P m).dn 1 d c)
    = iprop(tables m d ∗ (q0Loc d ↦{fullShare} GQ0 m d) ∗ (q1Loc d ↦{fullShare} GQ1 m d)) := join1 m d _ _

end Cert.KernelIdeal.Pf

end
-- ==== Proof.KI.Body.lean ====
/-
  The body of the two TensorCore calls: with its four operand blocks and its result block held, it leaves the operands
  alone and the result block at the product of the two layers.
-/
module

public import proofs.«01_k».proof.Proof.KI.Setup
public import Idealize.ShloMosaic.Lib.Pipeline.TableIdle
public import Idealize.ShloMosaic.Lib.VecWindow

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable [FloatOps F]

/-- The first call's body at any grid point. -/
theorem body_run0 (d : Dev nD) (i : grid2.Coords)
    (M1 : Memref sig .tc .vmem S1024x128 .f32) (h1 : M1.IsWhole) (M2 : Memref sig .tc .vmem S1024x128 .f32) (h2 : M2.IsWhole)
    (M3 : Memref sig .tc .vmem S2048x128 .bf16) (h3 : M3.IsWhole) (M4 : Memref sig .tc .vmem S1000x2048 .bf16) (h4 : M4.IsWhole)
    (M5 : Memref sig .tc .vmem S1000x1024 .f32) (h5 : M5.IsWhole)
    (x1 x2 : Vec F S1024x128 .f32) (x3 : Vec F S2048x128 .bf16) (x4 : Vec F S1000x2048 .bf16) (x5 : Vec F S1000x1024 .f32)
    (Q : PUnit → sProp 𝕄) :
    iprop(owns (d : Thread nD τ) M1 fullShare x1 ∗ owns (d : Thread nD τ) M2 fullShare x2 ∗ owns (d : Thread nD τ) M3 fullShare x3
        ∗ owns (d : Thread nD τ) M4 fullShare x4 ∗ owns (d : Thread nD τ) M5 fullShare x5
        ∗ (iprop(owns (d : Thread nD τ) M1 fullShare x1 ∗ owns (d : Thread nD τ) M2 fullShare x2 ∗ owns (d : Thread nD τ) M3 fullShare x3
            ∗ owns (d : Thread nD τ) M4 fullShare x4 ∗ owns (d : Thread nD τ) M5 fullShare (k2_pay1 x1 x2 x3 x4)) -∗ Q ⟨⟩))
      ⊢ wp frame (wpE (defs₀ (F := F)) Variants.none (d : Thread nD τ) none) Set.univ (cc2__mlp_body i M1 h1 M2 h2 M3 h3 M4 h4 M5 h5) Q := by
  simp only [cc2__mlp_body_eq_skeleton]; unfold cc2__mlp_body_skel
  unfold owns
  iintro ⟨⟨%f1, %e1, H1⟩, ⟨%f2, %e2, H2⟩, ⟨%f3, %e3, H3⟩, ⟨%f4, %e4, H4⟩, ⟨%f5, %e5, H5⟩, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  iexists _; isplitr; swap; (· iexact H5)
  ipureintro
  refine (View.read_writes_full M5.view f5 inb_S1000x1024_S1000x1024_0_0 _ []).trans ?_
  rw [View.readAt_full (s := S1024x128), View.readAt_full (s := S1024x128), View.readAt_full (s := S2048x128), View.readAt_full (s := S1000x2048), e1, e2, e3, e4]

/-- The second call's body at any grid point: the array it fills in place is passed to it whole and never touched. -/
theorem body_run1 (d : Dev nD) (i : grid3.Coords)
    (M1 : Memref sig .tc .vmem S1024x128 .f32) (h1 : M1.IsWhole) (M2 : Memref sig .tc .vmem S1024x128 .f32) (h2 : M2.IsWhole)
    (M3 : Memref sig .tc .vmem S2048x128 .bf16) (h3 : M3.IsWhole) (M4 : Memref sig .tc .vmem S1000x2048 .bf16) (h4 : M4.IsWhole)
    (A : Memref sig .tc .hbm S1000x16384 .f32) (hA : A.IsWhole) (M5 : Memref sig .tc .vmem S1000x1024 .f32) (h5 : M5.IsWhole)
    (x1 x2 : Vec F S1024x128 .f32) (x3 : Vec F S2048x128 .bf16) (x4 : Vec F S1000x2048 .bf16) (x5 : Vec F S1000x1024 .f32)
    (Q : PUnit → sProp 𝕄) :
    iprop(owns (d : Thread nD τ) M1 fullShare x1 ∗ owns (d : Thread nD τ) M2 fullShare x2 ∗ owns (d : Thread nD τ) M3 fullShare x3
        ∗ owns (d : Thread nD τ) M4 fullShare x4 ∗ owns (d : Thread nD τ) M5 fullShare x5
        ∗ (iprop(owns (d : Thread nD τ) M1 fullShare x1 ∗ owns (d : Thread nD τ) M2 fullShare x2 ∗ owns (d : Thread nD τ) M3 fullShare x3
            ∗ owns (d : Thread nD τ) M4 fullShare x4 ∗ owns (d : Thread nD τ) M5 fullShare (k3_pay1 x1 x2 x3 x4)) -∗ Q ⟨⟩))
      ⊢ wp frame (wpE (defs₀ (F := F)) Variants.none (d : Thread nD τ) none) Set.univ (cc3__mlp_body_alias i M1 h1 M2 h2 M3 h3 M4 h4 A hA M5 h5) Q := by
  simp only [cc3__mlp_body_alias_eq_skeleton]; unfold cc3__mlp_body_alias_skel
  unfold owns
  iintro ⟨⟨%f1, %e1, H1⟩, ⟨%f2, %e2, H2⟩, ⟨%f3, %e3, H3⟩, ⟨%f4, %e4, H4⟩, ⟨%f5, %e5, H5⟩, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  iexists _; isplitr; swap; (· iexact H5)
  ipureintro
  refine (View.read_writes_full M5.view f5 inb_S1000x1024_S1000x1024_0_0 _ []).trans ?_
  rw [View.readAt_full (s := S1024x128), View.readAt_full (s := S1024x128), View.readAt_full (s := S2048x128), View.readAt_full (s := S1000x2048), e1, e2, e3, e4]

end Cert.KernelIdeal.Pf

end
-- ==== Proof.KI.Region0.lean ====
/-
  The first TensorCore call as a region of the program: from all the unscoped buffers at given contents to the same
  with its result array at what the four write-backs leave.
-/
module

public import proofs.«01_k».proof.Proof.KI.Body
public import Idealize.ShloMosaic.Lib.Pipeline.RegionsLoop

@[expose] public section

noncomputable section

namespace Cert.KernelIdeal.Pf

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.Tactic

variable {F : FTy → Type}

local notation "𝕄" => MM F

variable [FloatOps F]

/-- The pairs of an own cell and an index whose level is at most that of the two SparseCore calls together. -/
def lowPairs (c : Dev nD) : Set (SemLoc sig × HIx 2) := {p | (K (F := F)).lev ((c : Thread nD τ), p.1) p.2 ≤ 16}

/-- Contents for each buffer of each device. -/
abbrev Vals (F : FTy → Type) : Type := (c : Dev nD) → (b : Ref sig .tc) → Buf (Elt F) ((c : Thread nD τ).loc b)

/-- What the TensorCore owes once both SparseCore calls are over: nothing, its recorded waits all low. -/
abbrev idle (c : Dev nD) : sProp 𝕄 :=
  iprop(∃ W, ⌜(K (F := F)).WBelow (c : Thread nD τ) W 16⌝ ∗ owes (c : Thread nD τ) (0 : CellTallies nD τ sig (HIx 2)) W)

variable (V : Vals F)

/-- The block of window `w` of the first call at point `t`, read off its array. -/
abbrev blk0 (c : Dev nD) (w : Fin 5) (t : Fin cfg2.N) : ((cfg2.win w).xblock (cfg2.grid.coords t)).Idx → Elt F (cfg2.win w).elt :=
  ((cfg2.win w).blk t).view.read (Elt F) (V c (Pipeline.arrRef spec2 w))

/-- The proof data of the first call: the operands' blocks stay as fetched, the result's block becomes the product of
    the two layers; nothing is owed. -/
def dat0 (c : Dev nD) : Dat τ (Elt F) (HIx 2) ℕ UU ℕ cfg2 c where
  A w := V c (Pipeline.arrRef spec2 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k2_pay1 (blk0 V c 0 t) (blk0 V c 1 t) (blk0 V c 2 t) (blk0 V c 3 t)
  Φ _ := Pipeline.scopedRest spec2 c
  q _ := fullShare
  owed _ := 0
  recorded _ := lowPairs (F := F) c

/-- Proof data for a call that is not under consideration. -/
def datAny {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

variable (adm : (p : Fin 2) → (pcfgs (F := F) p).Adm)

/-- The proof data of the two calls while the first is under consideration. -/
def dats0 : (p : Fin 2) → (c : Dev nD) → Dat τ (Elt F) (HIx 2) ℕ UU ℕ (Pipeline.pin (pcfgs (F := F)) adm p) c
  | ⟨0, _⟩ => fun c => dat0 V c
  | ⟨1, _⟩ => fun c => datAny c

/-- At every point the first gathered array's window holds its block. -/
theorem before0_0 (c : Dev nD) (t : Fin cfg2.N) (d) : (dat0 V c).before 0 t d = blk0 V c 0 t :=
  (dat0 V c).before_in_eq_fetched 0 rfl (fun _ => rfl) (fun _ _ _ => rfl) (fun _ => rfl) t d
/-- So does the second's. -/
theorem before0_1 (c : Dev nD) (t : Fin cfg2.N) (d) : (dat0 V c).before 1 t d = blk0 V c 1 t :=
  (dat0 V c).before_in_eq_fetched 1 rfl (fun _ => rfl) (fun _ _ _ => rfl) (fun _ => rfl) t d
/-- So does the first layer's. -/
theorem before0_2 (c : Dev nD) (t : Fin cfg2.N) (d) : (dat0 V c).before 2 t d = blk0 V c 2 t :=
  (dat0 V c).before_in_eq_fetched 2 rfl (fun _ => rfl) (fun _ _ _ => rfl) (fun _ => rfl) t d
/-- So does the second layer's. -/
theorem before0_3 (c : Dev nD) (t : Fin cfg2.N) (d) : (dat0 V c).before 3 t d = blk0 V c 3 t :=
  (dat0 V c).before_in_eq_fetched 3 rfl (fun _ => rfl) (fun _ _ _ => rfl) (fun _ => rfl) t d

/-- The body at any point meets the pipeline's obligation. -/
theorem obligation0 (c : Dev nD) : BodyObligation (dat0 V c) (defs₀ (F := F)) Variants.none (none : HIx 2) Set.univ := fun t => by
  rw [bigSep_W2, bigSep_W2]
  rw [show (dat0 V c).Φ t.succ = (dat0 V c).Φ t.castSucc from rfl, show (dat0 V c).owesAt none t.succ = (dat0 V c).owesAt none t.castSucc from rfl]
  iintro ⟨HΦ, Howes, ⟨%d0, H0⟩, ⟨%d1, H1⟩, ⟨%d2, H2⟩, ⟨%d3, H3⟩, ⟨%d4, H4⟩⟩
  ihave H0 := Entails.of_eq (congrArg _ (before0_0 V c t d0)) $$ H0
  ihave H1 := Entails.of_eq (congrArg _ (before0_1 V c t d1)) $$ H1
  ihave H2 := Entails.of_eq (congrArg _ (before0_2 V c t d2)) $$ H2
  ihave H3 := Entails.of_eq (congrArg _ (before0_3 V c t d3)) $$ H3
  iapply (body_run0 (F := F) c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3)) (st2_4 t) (hstage2_4 ((cfg2.slots t 4).cast nbuf2_4))
    (blk0 V c 0 t) (blk0 V c 1 t) (blk0 V c 2 t) (blk0 V c 3 t) ((dat0 V c).before 4 t d4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The first call's result array after its four write-backs. -/
def result0 (c : Dev nD) : Buf (Elt F) ((c : Thread nD τ).loc main_v4) := (dat0 V c).arrAt 4 cfg2.N

variable (V' : Vals F)

set_option backward.isDefEq.respectTransparency.types false in
/-- The first call as a region: all unscoped buffers at `V` on entry, at `V'` on leaving, where `V'` has the result array
    at `result0` and is `V` elsewhere. -/
def region0 (hout : ∀ c, V' c main_v4 = result0 V c) (hne : ∀ c (b : Ref sig .tc), b ≠ main_v4 → V' c b = V c b) :
    Pipeline.RegionSeg (pcfgs (F := F)) adm (dats0 V adm) (none : HIx 2) defs₀ Variants.none (K (F := F)).L (K (F := F)).lev 0 where
  win := launch2.win.to₀
  block_pos := launch2.block_pos
  stage_whole := launch2.stage_whole
  K := PEmpty
  osem k := k.elim
  ho := Pipeline.OwnSemFacts.none _
  hbody c := (obligation0 V c).loose
  hwaits := Pipeline.hwaits_of_owed_zero _ _ _ _ _ _ 0 fun _ _ => rfl
  pre c := iprop(unscopedBufs c (V c) ∗ idle c)
  post c := iprop(unscopedBufs c (V' c) ∗ idle c)
  X _ := BI.emp
  Y _ := BI.emp
  Z c := Pipeline.unscopedRest (Ix := HIx 2) (Name := ℕ) (U := UU) (Lvl := ℕ) spec2 c (V c)
  hentry c := by
    rw [Pipeline.ownSems0_none]
    have split := Pipeline.arrays_of_unscopedBufs (p := 0) (pcfgs (F := F)) adm (dats0 V adm) launch2.win launch2.arr_whole c
      ((dats0 V adm 0 c).share_full fun _ => rfl) (V c) fun _ => rfl
    iintro ⟨⟨Hub, ⟨%W, %hW, HO⟩⟩, -, -⟩
    ihave H := split $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr; · iempintro
    iexact Hrest
  hin c := by
    rw [show (dats0 V adm 0 c).Φ 0 = Pipeline.scopedRest spec2 c from rfl]
    iintro ⟨-, -, Hr⟩; iexact Hr
  hout c := by
    rw [Pipeline.ownSems0_none, show (dats0 V adm 0 c).Φ (Fin.last _) = Pipeline.scopedRest spec2 c from rfl]
    iintro Hr
    isplitr; · iempintro
    isplitr; · iempintro
    iexact Hr
  hexit c := by
    have join := Pipeline.unscopedBufs_of_arrays (p := 0) (pcfgs (F := F)) adm (Ix := HIx 2) (Name := ℕ) (U := UU) (Lvl := ℕ) launch2.win launch2.arr_whole c
      (dats0 V adm) ((dats0 V adm 0 c).share_full fun _ => rfl) (V c) (V' c) ((dats0 V adm 0 c).arrAt · cfg2.N)
      (fun w => by
        fin_cases w
        · exact ((dats0 V adm 0 c).arrAt_in 0 rfl _).trans (hne c main_v2_0 (by decide)).symm
        · exact ((dats0 V adm 0 c).arrAt_in 1 rfl _).trans (hne c main_v2_1 (by decide)).symm
        · exact ((dats0 V adm 0 c).arrAt_in 2 rfl _).trans (hne c main_v0 (by decide)).symm
        · exact ((dats0 V adm 0 c).arrAt_in 3 rfl _).trans (hne c main_v1 (by decide)).symm
        · exact (hout c).symm)
      (fun b hb => hne c b fun h => hb (h ▸ Finset.mem_image.mpr ⟨4, Finset.mem_univ _, rfl⟩))
    iintro ⟨Ha, HO, -, Hrest⟩
    imodintro
    isplitl [Ha Hrest]
    · iapply join; isplitl [Ha] <;> iassumption
    unfold Pipeline.Dat.owesAt Pipeline.owesWithin
    icases HO with ⟨%W, %hW, HO⟩; iexists W
    isplitr; swap; · iexact HO
    ipureintro
    intro p hp
    rcases hW hp with h | ⟨w, s, h⟩
    · exact h
    · rw [h]; exact Nat.zero_le _

end Cert.KernelIdeal.Pf

end
-- ==== Proof.KI.Region1.lean ====
/-
  The second TensorCore call as a region of the program: from all the unscoped buffers at given contents to the same
  with its result array at what the twelve write-backs leave.
-/
module

public import proofs.«01_k».proof.Proof.KI.Region0

@[expose] public section

noncomputable section

namespace Cert.KernelIdeal.Pf

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.Tactic

variable {F : FTy → Type}

local notation "𝕄" => MM F

variable [FloatOps F]

variable (V : Vals F)

/-- The block of window `w` of the second call at point `t`, read off its array. -/
abbrev blk1 (c : Dev nD) (w : Fin 5) (t : Fin cfg3.N) : ((cfg3.win w).xblock (cfg3.grid.coords t)).Idx → Elt F (cfg3.win w).elt :=
  ((cfg3.win w).blk t).view.read (Elt F) (V c (Pipeline.arrRef spec3 w))

/-- The proof data of the second call: the operands' blocks stay as fetched, the result's block becomes the product of
    the two layers; nothing is owed. -/
def dat1 (c : Dev nD) : Dat τ (Elt F) (HIx 2) ℕ UU ℕ cfg3 c where
  A w := V c (Pipeline.arrRef spec3 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => k3_pay1 (blk1 V c 0 t) (blk1 V c 1 t) (blk1 V c 2 t) (blk1 V c 3 t)
  Φ _ := Pipeline.scopedRest spec3 c
  q _ := fullShare
  owed _ := 0
  recorded _ := lowPairs (F := F) c

variable (adm : (p : Fin 2) → (pcfgs (F := F) p).Adm)

/-- The proof data of the two calls while the second is under consideration. -/
def dats1 : (p : Fin 2) → (c : Dev nD) → Dat τ (Elt F) (HIx 2) ℕ UU ℕ (Pipeline.pin (pcfgs (F := F)) adm p) c
  | ⟨0, _⟩ => fun c => datAny c
  | ⟨1, _⟩ => fun c => dat1 V c

/-- At every point the first gathered array's window holds its block. -/
theorem before1_0 (c : Dev nD) (t : Fin cfg3.N) (d) : (dat1 V c).before 0 t d = blk1 V c 0 t :=
  (dat1 V c).before_in_eq_fetched 0 rfl (fun _ => rfl) (fun _ _ _ => rfl) (fun _ => rfl) t d
/-- So does the second's. -/
theorem before1_1 (c : Dev nD) (t : Fin cfg3.N) (d) : (dat1 V c).before 1 t d = blk1 V c 1 t :=
  (dat1 V c).before_in_eq_fetched 1 rfl (fun _ => rfl) (fun _ _ _ => rfl) (fun _ => rfl) t d
/-- So does the first layer's. -/
theorem before1_2 (c : Dev nD) (t : Fin cfg3.N) (d) : (dat1 V c).before 2 t d = blk1 V c 2 t :=
  (dat1 V c).before_in_eq_fetched 2 rfl (fun _ => rfl) (fun _ _ _ => rfl) (fun _ => rfl) t d
/-- So does the second layer's. -/
theorem before1_3 (c : Dev nD) (t : Fin cfg3.N) (d) : (dat1 V c).before 3 t d = blk1 V c 3 t :=
  (dat1 V c).before_in_eq_fetched 3 rfl (fun _ => rfl) (fun _ _ _ => rfl) (fun _ => rfl) t d

/-- The body at any point meets the pipeline's obligation. -/
theorem obligation1 (c : Dev nD) : BodyObligation (dat1 V c) (defs₀ (F := F)) Variants.none (none : HIx 2) Set.univ := fun t => by
  rw [bigSep_W3, bigSep_W3]
  rw [show (dat1 V c).Φ t.succ = (dat1 V c).Φ t.castSucc from rfl, show (dat1 V c).owesAt none t.succ = (dat1 V c).owesAt none t.castSucc from rfl]
  iintro ⟨HΦ, Howes, ⟨%d0, H0⟩, ⟨%d1, H1⟩, ⟨%d2, H2⟩, ⟨%d3, H3⟩, ⟨%d4, H4⟩⟩
  ihave H0 := Entails.of_eq (congrArg _ (before1_0 V c t d0)) $$ H0
  ihave H1 := Entails.of_eq (congrArg _ (before1_1 V c t d1)) $$ H1
  ihave H2 := Entails.of_eq (congrArg _ (before1_2 V c t d2)) $$ H2
  ihave H3 := Entails.of_eq (congrArg _ (before1_3 V c t d3)) $$ H3
  iapply (body_run1 (F := F) c (grid3.coords t) (st3_0 t) (hstage3_0 ((cfg3.slots t 0).cast nbuf3_0)) (st3_1 t) (hstage3_1 ((cfg3.slots t 1).cast nbuf3_1))
    (st3_2 t) (hstage3_2 ((cfg3.slots t 2).cast nbuf3_2)) (st3_3 t) (hstage3_3 ((cfg3.slots t 3).cast nbuf3_3)) (Memref.whole main_v4) (Memref.isWhole_whole _) (st3_4 t) (hstage3_4 ((cfg3.slots t 4).cast nbuf3_4))
    (blk1 V c 0 t) (blk1 V c 1 t) (blk1 V c 2 t) (blk1 V c 3 t) ((dat1 V c).before 4 t d4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The second call's result array after its twelve write-backs. -/
def result1 (c : Dev nD) : Buf (Elt F) ((c : Thread nD τ).loc main_v5) := (dat1 V c).arrAt 4 cfg3.N

variable (V' : Vals F)

set_option backward.isDefEq.respectTransparency.types false in
/-- The second call as a region: all unscoped buffers at `V` on entry, at `V'` on leaving, where `V'` has the result array
    at `result1` and is `V` elsewhere. -/
def region1 (hout : ∀ c, V' c main_v5 = result1 V c) (hne : ∀ c (b : Ref sig .tc), b ≠ main_v5 → V' c b = V c b) :
    Pipeline.RegionSeg (pcfgs (F := F)) adm (dats1 V adm) (none : HIx 2) defs₀ Variants.none (K (F := F)).L (K (F := F)).lev 1 where
  win := launch3.win.to₀
  block_pos := launch3.block_pos
  stage_whole := launch3.stage_whole
  K := PEmpty
  osem k := k.elim
  ho := Pipeline.OwnSemFacts.none _
  hbody c := (obligation1 V c).loose
  hwaits := Pipeline.hwaits_of_owed_zero _ _ _ _ _ _ 1 fun _ _ => rfl
  pre c := iprop(unscopedBufs c (V c) ∗ idle c)
  post c := iprop(unscopedBufs c (V' c) ∗ idle c)
  X _ := BI.emp
  Y _ := BI.emp
  Z c := Pipeline.unscopedRest (Ix := HIx 2) (Name := ℕ) (U := UU) (Lvl := ℕ) spec3 c (V c)
  hentry c := by
    rw [Pipeline.ownSems0_none]
    have split := Pipeline.arrays_of_unscopedBufs (p := 1) (pcfgs (F := F)) adm (dats1 V adm) launch3.win launch3.arr_whole c
      ((dats1 V adm 1 c).share_full fun _ => rfl) (V c) fun _ => rfl
    iintro ⟨⟨Hub, ⟨%W, %hW, HO⟩⟩, -, -⟩
    ihave H := split $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr; · iempintro
    iexact Hrest
  hin c := by
    rw [show (dats1 V adm 1 c).Φ 0 = Pipeline.scopedRest spec3 c from rfl]
    iintro ⟨-, -, Hr⟩; iexact Hr
  hout c := by
    rw [Pipeline.ownSems0_none, show (dats1 V adm 1 c).Φ (Fin.last _) = Pipeline.scopedRest spec3 c from rfl]
    iintro Hr
    isplitr; · iempintro
    isplitr; · iempintro
    iexact Hr
  hexit c := by
    have join := Pipeline.unscopedBufs_of_arrays (p := 1) (pcfgs (F := F)) adm (Ix := HIx 2) (Name := ℕ) (U := UU) (Lvl := ℕ) launch3.win launch3.arr_whole c
      (dats1 V adm) ((dats1 V adm 1 c).share_full fun _ => rfl) (V c) (V' c) ((dats1 V adm 1 c).arrAt · cfg3.N)
      (fun w => by
        fin_cases w
        · exact ((dats1 V adm 1 c).arrAt_in 0 rfl _).trans (hne c main_v3_0 (by decide)).symm
        · exact ((dats1 V adm 1 c).arrAt_in 1 rfl _).trans (hne c main_v3_1 (by decide)).symm
        · exact ((dats1 V adm 1 c).arrAt_in 2 rfl _).trans (hne c main_v0 (by decide)).symm
        · exact ((dats1 V adm 1 c).arrAt_in 3 rfl _).trans (hne c main_v1 (by decide)).symm
        · exact (hout c).symm)
      (fun b hb => hne c b fun h => hb (h ▸ Finset.mem_image.mpr ⟨4, Finset.mem_univ _, rfl⟩))
    iintro ⟨Ha, HO, -, Hrest⟩
    imodintro
    isplitl [Ha Hrest]
    · iapply join; isplitl [Ha] <;> iassumption
    unfold Pipeline.Dat.owesAt Pipeline.owesWithin
    icases HO with ⟨%W, %hW, HO⟩; iexists W
    isplitr; swap; · iexact HO
    ipureintro
    intro p hp
    rcases hW hp with h | ⟨w, s, h⟩
    · exact h
    · rw [h]; exact Nat.zero_le _

end Cert.KernelIdeal.Pf

end
-- ==== Proof.KI.Chain.lean ====
/-
  What every unscoped buffer holds as the program goes on, step by step, and the step of each TensorCore call.
-/
module

public import proofs.«01_k».proof.Proof.KI.Calls
public import proofs.«01_k».proof.Proof.KI.Region1
public import Idealize.ShloMosaic.Lib.Pipeline.Frame

@[expose] public section

noncomputable section

namespace Cert.KernelIdeal.Pf

open Cert.KernelIdeal Cert.KernelIdeal.Gen
open Idealize.ShloMosaic Idealize.ShloMosaic.TcCoe
open Idealize.ShloMosaic.StableHlo (held held_sub_split held_congr wp_hlo_within)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable [FloatOps F]

/-! ## The host operations -/

/-- The first layer's weights, narrowed. -/
abbrev opA : HloOp τ sig (Elt F) :=
  StableHlo.unary main_arg4 main_v0 ((truncf .bf16 · bitsLt_bf16_f32) : (⟨S2048x128, .f32⟩ : BufTy).Contents (Elt F) → (⟨S2048x128, .bf16⟩ : BufTy).Contents (Elt F))
/-- The second layer's weights, narrowed. -/
abbrev opB : HloOp τ sig (Elt F) :=
  StableHlo.unary main_arg5 main_v1 ((truncf .bf16 · bitsLt_bf16_f32) : (⟨S1000x2048, .f32⟩ : BufTy).Contents (Elt F) → (⟨S1000x2048, .bf16⟩ : BufTy).Contents (Elt F))
/-- The copy of the first TensorCore call's result that the second fills on. -/
abbrev opC : HloOp τ sig (Elt F) := StableHlo.unary main_v4 main_v5 id
/-- The final transpose. -/
abbrev opT : HloOp τ sig (Elt F) :=
  StableHlo.unary main_v5 main_v6 ((transpose S16384x1000 [1, 0] · transposes_S1000x16384_S16384x1000_1_0) : (⟨S1000x16384, .f32⟩ : BufTy).Contents (Elt F) → (⟨S16384x1000, .f32⟩ : BufTy).Contents (Elt F))

/-- All the unscoped buffers. -/
abbrev UB : Finset (DevRef τ sig) := Pipeline.ucRefs τ sig

/-- The first operation's buffers are unscoped. -/
theorem opA_in : (opA (F := F)).bufs ⊆ UB := Pipeline.sub_ucRefs _ (by simp)
/-- So are the second's. -/
theorem opB_in : (opB (F := F)).bufs ⊆ UB := Pipeline.sub_ucRefs _ (by simp)
/-- So are the copy's. -/
theorem opC_in : (opC (F := F)).bufs ⊆ UB := Pipeline.sub_ucRefs _ (by simp)
/-- So are the transpose's. -/
theorem opT_in : (opT (F := F)).bufs ⊆ UB := Pipeline.sub_ucRefs _ (by simp)

/-! ## The contents, step by step -/

variable (m : (ℓ : Loc nD τ sig) → Buf (Elt F) ℓ)

/-- A buffer of the TensorCore as a buffer of the device. -/
abbrev dv (b : Ref sig .tc) : DevRef τ sig := Proc.devRef .tc b

/-- At launch. -/
def C0 (d : Dev nD) : Valuation τ sig (Elt F) := fun b => m (d, b)
/-- With both layers' weights narrowed. -/
def C1 (d : Dev nD) : Valuation τ sig (Elt F) := (opB (F := F)).result ((opA (F := F)).result (C0 m d))
/-- After the first SparseCore call. -/
def C2 (d : Dev nD) : Valuation τ sig (Elt F) :=
  Function.update (Function.update (C1 m d) (dv main_v2_0) (GP0 m d)) (dv main_v2_1) (GP1 m d)
/-- After the second. -/
def C3 (d : Dev nD) : Valuation τ sig (Elt F) :=
  Function.update (Function.update (C2 m d) (dv main_v3_0) (GQ0 m d)) (dv main_v3_1) (GQ1 m d)
/-- After the first TensorCore call. -/
def C4 (d : Dev nD) : Valuation τ sig (Elt F) :=
  Function.update (C3 m d) (dv main_v4) (result0 (fun c b => C3 m c (dv b)) d)
/-- With its result copied. -/
def C5 (d : Dev nD) : Valuation τ sig (Elt F) := (opC (F := F)).result (C4 m d)
/-- After the second TensorCore call. -/
def C6 (d : Dev nD) : Valuation τ sig (Elt F) :=
  Function.update (C5 m d) (dv main_v5) (result1 (fun c b => C5 m c (dv b)) d)
/-- At the end. -/
def C7 (d : Dev nD) : Valuation τ sig (Elt F) := (opT (F := F)).result (C6 m d)

/-- Different buffers of the TensorCore are different buffers of the device. -/
theorem dv_ne {a b : Ref sig .tc} (h : a ≠ b) : dv a ≠ dv b := StableHlo.devRef_ne_of_ne h

/-- Narrowing the weights changes only the narrowed arrays. -/
theorem C1_ne (d : Dev nD) (b : Ref sig .tc) (h0 : b ≠ main_v0) (h1 : b ≠ main_v1) : C1 m d (dv b) = m ((d : Thread nD τ).loc b) :=
  (StableHlo.unary_result_ne _ _ _ _ _ _ h1).trans (StableHlo.unary_result_ne _ _ _ _ _ _ h0)
/-- The first SparseCore call changes only its outputs. -/
theorem C2_ne (d : Dev nD) (b : DevRef τ sig) (h0 : b ≠ dv main_v2_0) (h1 : b ≠ dv main_v2_1) : C2 m d b = C1 m d b :=
  (Function.update_of_ne h1 _ _).trans (Function.update_of_ne h0 _ _)
/-- So does the second. -/
theorem C3_ne (d : Dev nD) (b : DevRef τ sig) (h0 : b ≠ dv main_v3_0) (h1 : b ≠ dv main_v3_1) : C3 m d b = C2 m d b :=
  (Function.update_of_ne h1 _ _).trans (Function.update_of_ne h0 _ _)
/-- The first TensorCore call changes only its result. -/
theorem C4_ne (d : Dev nD) (b : Ref sig .tc) (h : b ≠ main_v4) : C4 m d (dv b) = C3 m d (dv b) := Function.update_of_ne (dv_ne h) _ _
/-- The copy changes only its target. -/
theorem C5_ne (d : Dev nD) (b : Ref sig .tc) (h : b ≠ main_v5) : C5 m d (dv b) = C4 m d (dv b) := StableHlo.unary_result_ne _ _ _ _ _ _ h
/-- The second TensorCore call changes only its result. -/
theorem C6_ne (d : Dev nD) (b : Ref sig .tc) (h : b ≠ main_v5) : C6 m d (dv b) = C5 m d (dv b) := Function.update_of_ne (dv_ne h) _ _
/-- The transpose changes only its result. -/
theorem C7_ne (d : Dev nD) (b : Ref sig .tc) (h : b ≠ main_v6) : C7 m d (dv b) = C6 m d (dv b) := StableHlo.unary_result_ne _ _ _ _ _ _ h

/-- After the first SparseCore call its first output holds the first table's rows. -/
theorem C2_p0 (d : Dev nD) : C2 m d (dv main_v2_0) = GP0 m d :=
  (Function.update_of_ne (dv_ne (show main_v2_0 ≠ main_v2_1 by decide)) _ _).trans (Function.update_self _ _ _)
/-- And its second output the second table's. -/
theorem C2_p1 (d : Dev nD) : C2 m d (dv main_v2_1) = GP1 m d := Function.update_self _ _ _
/-- After the second SparseCore call its first output holds the first table's rows. -/
theorem C3_q0 (d : Dev nD) : C3 m d (dv main_v3_0) = GQ0 m d :=
  (Function.update_of_ne (dv_ne (show main_v3_0 ≠ main_v3_1 by decide)) _ _).trans (Function.update_self _ _ _)
/-- And its second output the second table's. -/
theorem C3_q1 (d : Dev nD) : C3 m d (dv main_v3_1) = GQ1 m d := Function.update_self _ _ _

/-- A buffer the program never writes holds at the end what it held at launch. -/
theorem C7_kept (d : Dev nD) (b : Ref sig .tc)
    (h : b ∉ [main_v0, main_v1, main_v2_0, main_v2_1, main_v3_0, main_v3_1, main_v4, main_v5, main_v6]) :
    C7 m d (dv b) = m ((d : Thread nD τ).loc b) := by
  simp only [List.mem_cons, List.not_mem_nil, or_false, not_or] at h
  obtain ⟨h0, h1, h2, h3, h4, h5, h6, h7, h8⟩ := h
  rw [C7_ne m d b h8, C6_ne m d b h7, C5_ne m d b h7, C4_ne m d b h6, C3_ne m d _ (dv_ne h4) (dv_ne h5), C2_ne m d _ (dv_ne h2) (dv_ne h3), C1_ne m d b h0 h1]

/-! ## What a SparseCore call takes and gives back -/

/-- The buffers of the first SparseCore call: the four read-only arrays and its two outputs. -/
def S0 : Finset (DevRef τ sig) := {dv main_arg0, dv main_arg1, dv main_arg2, dv main_arg3, dv main_v2_0, dv main_v2_1}
/-- The buffers of the second. -/
def S1 : Finset (DevRef τ sig) := {dv main_arg0, dv main_arg1, dv main_arg2, dv main_arg3, dv main_v3_0, dv main_v3_1}

/-- The first call's buffers are unscoped. -/
theorem S0_in : S0 ⊆ UB := by decide
/-- So are the second's. -/
theorem S1_in : S1 ⊆ UB := by decide

/-- The first call's buffers held are the six arrays, each whole. -/
theorem held_S0 (d : Dev nD) (W : Valuation τ sig (Elt F)) :
    (held (SparseCore.T d) S0 W : sProp 𝕄)
      = iprop((aLoc d ↦{fullShare} W (dv main_arg0)) ∗ (bLoc d ↦{fullShare} W (dv main_arg1)) ∗ (eaLoc d ↦{fullShare} W (dv main_arg2)) ∗ (ebLoc d ↦{fullShare} W (dv main_arg3))
          ∗ (p0Loc d ↦{fullShare} W (dv main_v2_0)) ∗ (p1Loc d ↦{fullShare} W (dv main_v2_1))) := by
  unfold held S0
  rw [SparseCore.bigSep_insert' (by decide), SparseCore.bigSep_insert' (by decide), SparseCore.bigSep_insert' (by decide), SparseCore.bigSep_insert' (by decide),
    SparseCore.bigSep_insert' (by decide), bigSep_singleton]

/-- The same of the second's. -/
theorem held_S1 (d : Dev nD) (W : Valuation τ sig (Elt F)) :
    (held (SparseCore.T d) S1 W : sProp 𝕄)
      = iprop((aLoc d ↦{fullShare} W (dv main_arg0)) ∗ (bLoc d ↦{fullShare} W (dv main_arg1)) ∗ (eaLoc d ↦{fullShare} W (dv main_arg2)) ∗ (ebLoc d ↦{fullShare} W (dv main_arg3))
          ∗ (q0Loc d ↦{fullShare} W (dv main_v3_0)) ∗ (q1Loc d ↦{fullShare} W (dv main_v3_1))) := by
  unfold held S1
  rw [SparseCore.bigSep_insert' (by decide), SparseCore.bigSep_insert' (by decide), SparseCore.bigSep_insert' (by decide), SparseCore.bigSep_insert' (by decide),
    SparseCore.bigSep_insert' (by decide), bigSep_singleton]

/-- Everything before the first call: what it takes, and the rest. -/
theorem before_call0 (d : Dev nD) : (held (SparseCore.T d) UB (C1 m d) : sProp 𝕄)
    ⊢ iprop((bigSep Finset.univ fun c : Fin ((K (F := F)).nCore 0) => (P m).st 0 d c) ∗ held (SparseCore.T d) (UB \ S0) (C1 m d)) := by
  rw [held_sub_split _ S0_in, held_S0, st0_eq, C1_ne m d main_arg0 (by decide) (by decide), C1_ne m d main_arg1 (by decide) (by decide),
    C1_ne m d main_arg2 (by decide) (by decide), C1_ne m d main_arg3 (by decide) (by decide), C1_ne m d main_v2_0 (by decide) (by decide),
    C1_ne m d main_v2_1 (by decide) (by decide)]
  iintro ⟨⟨H0, H1, H2, H3, H4, H5⟩, Hr⟩
  isplitr [Hr]; swap; · iexact Hr
  isplitl [H0 H1 H2 H3]
  · isplitl [H0]; · iexact H0
    isplitl [H1]; · iexact H1
    isplitl [H2]; · iexact H2
    iexact H3
  isplitl [H4]; · iexact H4
  iexact H5

/-- Everything after it. -/
theorem after_call0 (d : Dev nD) :
    iprop((bigSep Finset.univ fun c : Fin ((K (F := F)).nCore 0) => (P m).dn 0 d c) ∗ held (SparseCore.T d) (UB \ S0) (C1 m d))
      ⊢ (held (SparseCore.T d) UB (C2 m d) : sProp 𝕄) := by
  rw [held_sub_split _ S0_in (C2 m d), held_S0, dn0_eq, C2_p0, C2_p1,
    C2_ne m d _ (dv_ne (show main_arg0 ≠ main_v2_0 by decide)) (dv_ne (show main_arg0 ≠ main_v2_1 by decide)),
    C2_ne m d _ (dv_ne (show main_arg1 ≠ main_v2_0 by decide)) (dv_ne (show main_arg1 ≠ main_v2_1 by decide)),
    C2_ne m d _ (dv_ne (show main_arg2 ≠ main_v2_0 by decide)) (dv_ne (show main_arg2 ≠ main_v2_1 by decide)),
    C2_ne m d _ (dv_ne (show main_arg3 ≠ main_v2_0 by decide)) (dv_ne (show main_arg3 ≠ main_v2_1 by decide)),
    C1_ne m d main_arg0 (by decide) (by decide), C1_ne m d main_arg1 (by decide) (by decide),
    C1_ne m d main_arg2 (by decide) (by decide), C1_ne m d main_arg3 (by decide) (by decide),
    held_congr (SparseCore.T d) (S := UB \ S0) (V := C2 m d) (V' := C1 m d) fun b hb => C2_ne m d b
      (fun e => (Finset.mem_sdiff.mp hb).2 (e ▸ (by decide : dv main_v2_0 ∈ S0))) (fun e => (Finset.mem_sdiff.mp hb).2 (e ▸ (by decide : dv main_v2_1 ∈ S0)))]
  iintro ⟨⟨⟨H0, H1, H2, H3⟩, H4, H5⟩, Hr⟩
  isplitr [Hr]; swap; · iexact Hr
  isplitl [H0]; · iexact H0
  isplitl [H1]; · iexact H1
  isplitl [H2]; · iexact H2
  isplitl [H3]; · iexact H3
  isplitl [H4]; · iexact H4
  iexact H5

/-- Buffers no host operation and no first call writes hold what they held at launch. -/
theorem C2_kept (d : Dev nD) (b : Ref sig .tc) (h0 : b ≠ main_v0) (h1 : b ≠ main_v1) (h2 : b ≠ main_v2_0) (h3 : b ≠ main_v2_1) :
    C2 m d (dv b) = m ((d : Thread nD τ).loc b) := (C2_ne m d _ (dv_ne h2) (dv_ne h3)).trans (C1_ne m d b h0 h1)

/-- Everything before the second call: what it takes, and the rest. -/
theorem before_call1 (d : Dev nD) : (held (SparseCore.T d) UB (C2 m d) : sProp 𝕄)
    ⊢ iprop((bigSep Finset.univ fun c : Fin ((K (F := F)).nCore 1) => (P m).st 1 d c) ∗ held (SparseCore.T d) (UB \ S1) (C2 m d)) := by
  rw [held_sub_split _ S1_in, held_S1, st1_eq, C2_kept m d main_arg0 (by decide) (by decide) (by decide) (by decide),
    C2_kept m d main_arg1 (by decide) (by decide) (by decide) (by decide), C2_kept m d main_arg2 (by decide) (by decide) (by decide) (by decide),
    C2_kept m d main_arg3 (by decide) (by decide) (by decide) (by decide), C2_kept m d main_v3_0 (by decide) (by decide) (by decide) (by decide),
    C2_kept m d main_v3_1 (by decide) (by decide) (by decide) (by decide)]
  iintro ⟨⟨H0, H1, H2, H3, H4, H5⟩, Hr⟩
  isplitr [Hr]; swap; · iexact Hr
  isplitl [H0 H1 H2 H3]
  · isplitl [H0]; · iexact H0
    isplitl [H1]; · iexact H1
    isplitl [H2]; · iexact H2
    iexact H3
  isplitl [H4]; · iexact H4
  iexact H5

/-- Everything after it. -/
theorem after_call1 (d : Dev nD) :
    iprop((bigSep Finset.univ fun c : Fin ((K (F := F)).nCore 1) => (P m).dn 1 d c) ∗ held (SparseCore.T d) (UB \ S1) (C2 m d))
      ⊢ (held (SparseCore.T d) UB (C3 m d) : sProp 𝕄) := by
  rw [held_sub_split _ S1_in (C3 m d), held_S1, dn1_eq, C3_q0, C3_q1,
    C3_ne m d _ (dv_ne (show main_arg0 ≠ main_v3_0 by decide)) (dv_ne (show main_arg0 ≠ main_v3_1 by decide)),
    C3_ne m d _ (dv_ne (show main_arg1 ≠ main_v3_0 by decide)) (dv_ne (show main_arg1 ≠ main_v3_1 by decide)),
    C3_ne m d _ (dv_ne (show main_arg2 ≠ main_v3_0 by decide)) (dv_ne (show main_arg2 ≠ main_v3_1 by decide)),
    C3_ne m d _ (dv_ne (show main_arg3 ≠ main_v3_0 by decide)) (dv_ne (show main_arg3 ≠ main_v3_1 by decide)),
    C2_kept m d main_arg0 (by decide) (by decide) (by decide) (by decide),
    C2_kept m d main_arg1 (by decide) (by decide) (by decide) (by decide), C2_kept m d main_arg2 (by decide) (by decide) (by decide) (by decide),
    C2_kept m d main_arg3 (by decide) (by decide) (by decide) (by decide),
    held_congr (SparseCore.T d) (S := UB \ S1) (V := C3 m d) (V' := C2 m d) fun b hb => C3_ne m d b
      (fun e => (Finset.mem_sdiff.mp hb).2 (e ▸ (by decide : dv main_v3_0 ∈ S1))) (fun e => (Finset.mem_sdiff.mp hb).2 (e ▸ (by decide : dv main_v3_1 ∈ S1)))]
  iintro ⟨⟨⟨H0, H1, H2, H3⟩, H4, H5⟩, Hr⟩
  isplitr [Hr]; swap; · iexact Hr
  isplitl [H0]; · iexact H0
  isplitl [H1]; · iexact H1
  isplitl [H2]; · iexact H2
  isplitl [H3]; · iexact H3
  isplitl [H4]; · iexact H4
  iexact H5

/-! ## The two TensorCore calls as steps of the program -/

/-- Neither call has tables to prefetch. -/
abbrev adm : (p : Fin 2) → (pcfgs (F := F) p).Adm := fun p => (cfgs p).toPCfg_adm

/-- The ghost state of one of the two calls' pipelines. -/
abbrev ghost (p : Fin 2) (d : Dev nD) : sProp 𝕄 :=
  iprop(Pipeline.cellsGhost cfgs (EP (F := F)) p d ∗ Pipeline.toksInit cfgs (EP (F := F)) p d)

/-- The first TensorCore call takes everything from `C3` to `C4`. -/
theorem step0 (d : Dev nD) (Q : PUnit → sProp 𝕄) :
    iprop(boundary (SparseCore.T d) ∗ held (SparseCore.T d) UB (C3 m d) ∗ idle (F := F) d ∗ levAts (K (F := F)).L (K (F := F)).lev ∗ ghost (F := F) 0 d
        ∗ (iprop(boundary (SparseCore.T d) ∗ held (SparseCore.T d) UB (C4 m d) ∗ idle (F := F) d) -∗ Q ⟨⟩))
      ⊢ wp frame (wpE ((K (F := F)).defs (D (F := F))) 𝒱 (SparseCore.T d) none) Set.univ
          (Prog.lift (.customCall (SparseCore.inner (Pipeline.entry 0)) ())) Q := by
  have he : (Prog.lift (.customCall (SparseCore.inner (Pipeline.entry 0)) ()) : Prog (TpuEff nD τ sig (Elt F) (SparseCore.Sig (ΛP (F := F)) 2) .tc) PUnit)
      = SparseCore.liftProg (Λ := ΛP (F := F)) (Q := 2) (Prog.lift (TpuEff.customCall (Λ := ΛP (F := F)) (Pipeline.entry 0) ())) := by
    with_unfolding_all rfl
  rw [he]
  have hl := (K (F := F)).wp_liftProg (D (F := F)) 𝒱 (SparseCore.T d) Set.univ none (Prog.lift (TpuEff.customCall (Λ := ΛP (F := F)) (Pipeline.entry 0) ())) Q
  refine BIBase.Entails.trans ?_ hl
  have hw := Pipeline.RegionSeg.wp (pcfgs (F := F)) adm (dats0 (fun c b => C3 m c (dv b)) adm) (none : HIx 2) cellOf_inj (EP (F := F)) defs₀ Variants.none
    (K (F := F)).L (K (F := F)).lev
    (region0 (fun c b => C3 m c (dv b)) adm (fun c b => C4 m c (dv b)) (fun c => Function.update_self _ _ _) (fun c b h => C4_ne m c b h)) d none
    (fun u hu => nomatch hu) (fun x => .ret x) Q
  dsimp only [region0] at hw
  refine BIBase.Entails.trans ?_ hw
  iintro ⟨Hb, Hh, Hi, Hl, ⟨Hg, Ht⟩, Hk⟩
  isplitl [Hk]
  · iintro ⟨Hb, Hh, Hi⟩
    rw [wp_ret]; imodintro
    iapply Hk
    isplitl [Hb]; · iexact Hb
    isplitr [Hi]; swap; · iexact Hi
    iapply (Entails.of_eq (Pipeline.unscopedBufs_held d (C4 m d))); iexact Hh
  isplitl [Hb]; · iexact Hb
  isplitl [Hh Hi]
  · isplitr [Hi]; swap; · iexact Hi
    iapply (Entails.of_eq (Pipeline.unscopedBufs_held d (C3 m d)).symm); iexact Hh
  isplitl [Hl]; · iexact Hl
  isplitl [Hg]; · iexact Hg
  iexact Ht

/-- The second TensorCore call takes everything from `C5` to `C6`. -/
theorem step1 (d : Dev nD) (Q : PUnit → sProp 𝕄) :
    iprop(boundary (SparseCore.T d) ∗ held (SparseCore.T d) UB (C5 m d) ∗ idle (F := F) d ∗ levAts (K (F := F)).L (K (F := F)).lev ∗ ghost (F := F) 1 d
        ∗ (iprop(boundary (SparseCore.T d) ∗ held (SparseCore.T d) UB (C6 m d) ∗ idle (F := F) d) -∗ Q ⟨⟩))
      ⊢ wp frame (wpE ((K (F := F)).defs (D (F := F))) 𝒱 (SparseCore.T d) none) Set.univ
          (Prog.lift (.customCall (SparseCore.inner (Pipeline.entry 1)) ())) Q := by
  have he : (Prog.lift (.customCall (SparseCore.inner (Pipeline.entry 1)) ()) : Prog (TpuEff nD τ sig (Elt F) (SparseCore.Sig (ΛP (F := F)) 2) .tc) PUnit)
      = SparseCore.liftProg (Λ := ΛP (F := F)) (Q := 2) (Prog.lift (TpuEff.customCall (Λ := ΛP (F := F)) (Pipeline.entry 1) ())) := by
    with_unfolding_all rfl
  rw [he]
  have hl := (K (F := F)).wp_liftProg (D (F := F)) 𝒱 (SparseCore.T d) Set.univ none (Prog.lift (TpuEff.customCall (Λ := ΛP (F := F)) (Pipeline.entry 1) ())) Q
  refine BIBase.Entails.trans ?_ hl
  have hw := Pipeline.RegionSeg.wp (pcfgs (F := F)) adm (dats1 (fun c b => C5 m c (dv b)) adm) (none : HIx 2) cellOf_inj (EP (F := F)) defs₀ Variants.none
    (K (F := F)).L (K (F := F)).lev
    (region1 (fun c b => C5 m c (dv b)) adm (fun c b => C6 m c (dv b)) (fun c => Function.update_self _ _ _) (fun c b h => C6_ne m c b h)) d none
    (fun u hu => nomatch hu) (fun x => .ret x) Q
  dsimp only [region1] at hw
  refine BIBase.Entails.trans ?_ hw
  iintro ⟨Hb, Hh, Hi, Hl, ⟨Hg, Ht⟩, Hk⟩
  isplitl [Hk]
  · iintro ⟨Hb, Hh, Hi⟩
    rw [wp_ret]; imodintro
    iapply Hk
    isplitl [Hb]; · iexact Hb
    isplitr [Hi]; swap; · iexact Hi
    iapply (Entails.of_eq (Pipeline.unscopedBufs_held d (C6 m d))); iexact Hh
  isplitl [Hb]; · iexact Hb
  isplitl [Hh Hi]
  · isplitr [Hi]; swap; · iexact Hi
    iapply (Entails.of_eq (Pipeline.unscopedBufs_held d (C5 m d)).symm); iexact Hh
  isplitl [Hl]; · iexact Hl
  isplitl [Hg]; · iexact Hg
  iexact Ht

end Cert.KernelIdeal.Pf

end
-- ==== Proof.KI.Main.lean ====
/-
  The whole program's run: the launch's ghost state, @main on the TensorCore, the memory at the end, and the frame.
-/
module

public import proofs.«01_k».proof.Proof.KI.Chain
public import proofs.«01_k».proof.Pre_in_vocabulary

@[expose] public section

noncomputable section

namespace Cert.KernelIdeal.Pf

open Cert.KernelIdeal Cert.KernelIdeal.Gen
open Idealize.ShloMosaic Idealize.ShloMosaic.TcCoe
open Idealize.ShloMosaic.StableHlo (held held_sub_split held_congr wp_hlo_within)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable [FloatOps F]
variable (m : (ℓ : Loc nD τ sig) → Buf (Elt F) ℓ) (ρ : Dev nD → PrngReg)

/-! ## The launch's ghost state -/

/-- The handshakes' element beside the two pipelines'. -/
def u₀ : UU := (initOf (K (F := F)).hsCells (K (F := F)).hsToks, (initOf (Pipeline.cells cfgs cellOf_inj) (Pipeline.launchToks cfgs cellOf_inj), 1))

/-- What a device's TensorCore is dealt of it. -/
abbrev G (d : Dev nD) : sProp 𝕄 := iprop(ghost (F := F) 0 d ∗ ghost (F := F) 1 d)

/-- Nothing for each of many is nothing. -/
theorem nothing_each {I : Type} (s : Finset I) : (bigSep s fun _ => iprop(emp)) = (iprop(emp) : sProp 𝕄) := bigSep_emp_const s

/-- Every device's share, as the pipelines' library deals it: all the cells, then all the tokens. -/
theorem deal_eq : (bigSep Finset.univ fun d : Dev nD => G (F := F) d)
    = iprop((bigSep Finset.univ fun d : Dev nD => bigSep Finset.univ fun p : Fin 2 => Pipeline.cellsGhost cfgs (EP (F := F)) p d)
      ∗ bigSep Finset.univ fun d : Dev nD => bigSep Finset.univ fun p : Fin 2 => Pipeline.toksInit cfgs (EP (F := F)) p d) := by
  rw [← bigSep_sep']
  refine bigSep_congr fun d _ => ?_
  rw [← bigSep_sep', bigSep_fin_two]
  rfl

/-- The launch element splits into the handshakes' share and each device's share of the two pipelines. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HR⟩
  ihave H := (own_pair_emb embR (initOf (Pipeline.cells cfgs cellOf_inj) (Pipeline.launchToks cfgs cellOf_inj)) (1 : Counters)) $$ HR
  icases H with ⟨HP, -⟩
  ihave HF := (show (BI.own (((Emb.inl : Emb UP (UP × Counters)).trans embR) (initOf (Pipeline.cells cfgs cellOf_inj) (Pipeline.launchToks cfgs cellOf_inj))) : sProp 𝕄) ⊢ _ from
    Pipeline.fund_ghost cfgs (EP (F := F)) cellOf_inj) $$ HP
  imod HF with ⟨HC, HT⟩
  imodintro
  isplitl [HH]; · iexact HH
  isplitl [HC HT]
  · rw [deal_eq]
    isplitl [HC] <;> iassumption
  rw [show (bigSep Finset.univ fun thr : Thread nD τ => bigSep Finset.univ fun q : Fin 2 => (P (F := F) m).x q thr) = bigSep Finset.univ fun _ => iprop(emp) from
    bigSep_congr fun _ _ => (bigSep_congr fun q _ => (match q with | 0 => rfl | 1 => rfl : (P (F := F) m).x q _ = iprop(emp))).trans (nothing_each _), nothing_each]
  iempintro

/-! ## @main on the TensorCore -/

/-- What @main leaves the claims: every unscoped buffer at its last contents. -/
abbrev FIN (d : Dev nD) : sProp 𝕄 := held (SparseCore.T d) UB (C7 m d)

/-- @main on one device's TensorCore: the two conversions, the two SparseCore calls, the first TensorCore call, the copy,
    the second TensorCore call, the transpose. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) UB (C0 m d) from Pipeline.unscopedBufs_held d (C0 m d)]
  simp only [main, wp_bind, wp_pure]
  iintro ⟨#Hctx, Hst, ⟨Hb, Hh, Hts, -⟩, ⟨HG0, HG1⟩⟩
  -- the two conversions
  iapply (wp_hlo_within 𝒱 (SparseCore.T d) none Set.univ (op := opA) (S := UB) opA_in (V := C0 m d)) $$ [Hb Hh]
  · isplitl [Hb] <;> iassumption
  iintro ⟨Hb, Hh⟩
  rw [wp_ret]; imodintro
  iapply (wp_hlo_within 𝒱 (SparseCore.T d) none Set.univ (op := opB) (S := UB) opB_in (V := (opA (F := F)).result (C0 m d))) $$ [Hb Hh]
  · isplitl [Hb] <;> iassumption
  rw [show (opB (F := F)).result ((opA (F := F)).result (C0 m d)) = C1 m d from rfl]
  iintro ⟨Hb, Hh⟩
  rw [wp_ret]; imodintro
  -- the first SparseCore call
  ihave Hh := (before_call0 m d) $$ Hh
  icases Hh with ⟨Hin, Hrest⟩
  iapply ((K (F := F)).wp_run (D (F := F)) 𝒱 (EH := EH) (P := P m) κ d 0) $$ [Hst Hin Hrest Hb Hts HG0 HG1]
  isplitr; · iexact Hctx
  isplitl [Hst]; · iexact Hst
  isplitl [Hin]; · iexact Hin
  iintro ⟨Hst, Hout⟩
  ihave Hh := (after_call0 m d) $$ [Hout Hrest]
  · isplitl [Hout] <;> iassumption
  -- the second
  ihave Hh := (before_call1 m d) $$ Hh
  icases Hh with ⟨Hin, Hrest⟩
  iapply ((K (F := F)).wp_run (D (F := F)) 𝒱 (EH := EH) (P := P m) κ d 1) $$ [Hst Hin Hrest Hb Hts HG0 HG1]
  isplitr; · iexact Hctx
  isplitl [Hst]; · iexact Hst
  isplitl [Hin]; · iexact Hin
  iintro ⟨Hst, Hout⟩
  ihave Hh := (after_call1 m d) $$ [Hout Hrest]
  · isplitl [Hout] <;> iassumption
  -- what the TensorCore owes, now nothing
  unfold SparseCore.Cfg.tcSt
  icases Hst with ⟨⟨%W, %hW, HO⟩, Hpos⟩
  rw [show (K (F := F)).Otc d (((1 : Fin 2) : ℕ) + 1) = 0 from (K (F := F)).Otc_end d (le_refl 2)]
  ihave Hi : idle (F := F) d $$ [HO]
  · iexists W
    isplitr; · ipureintro; exact hW
    iexact HO
  ihave #Hlev := ((K (F := F)).ctx_levAts κ) $$ Hctx
  iapply (step0 m d) $$ [Hb Hh Hi HG0 HG1 Hts Hpos]
  isplitl [Hb]; · iexact Hb
  isplitl [Hh]; · iexact Hh
  isplitl [Hi]; · iexact Hi
  isplitr; · iexact Hlev
  isplitl [HG0]; · iexact HG0
  iintro ⟨Hb, Hh, Hi⟩
  -- the copy
  iapply (wp_hlo_within 𝒱 (SparseCore.T d) none Set.univ (op := opC) (S := UB) opC_in (V := C4 m d)) $$ [Hb Hh]
  · isplitl [Hb] <;> iassumption
  rw [show (opC (F := F)).result (C4 m d) = C5 m d from rfl]
  iintro ⟨Hb, Hh⟩
  rw [wp_ret]; imodintro
  iapply (step1 m d) $$ [Hb Hh Hi HG1 Hts Hpos]
  isplitl [Hb]; · iexact Hb
  isplitl [Hh]; · iexact Hh
  isplitl [Hi]; · iexact Hi
  isplitr; · iexact Hlev
  isplitl [HG1]; · iexact HG1
  iintro ⟨Hb, Hh, Hi⟩
  -- the transpose
  iapply (wp_hlo_within 𝒱 (SparseCore.T d) none Set.univ (op := opT) (S := UB) opT_in (V := C6 m d)) $$ [Hb Hh]
  · isplitl [Hb] <;> iassumption
  rw [show (opT (F := F)).result (C6 m d) = C7 m d from rfl]
  iintro ⟨Hb, Hh⟩
  rw [wp_ret]; imodintro
  imodintro
  icases Hi with ⟨%W', %hW', HO⟩
  isplitl [HO Hpos]
  · isplitl [HO]
    · iexists W'
      isplitr; · ipureintro; exact hW'
      rw [(K (F := F)).Otc_end d (le_refl 2)]
      iexact HO
    iexact Hpos
  isplitl [Hh]; · iexact Hh
  isplitl [Hb] <;> iassumption

/-! ## The memory at the end -/

/-- Buffers held whole agree with the machine's memory. -/
theorem held_agree (d : Dev nD) (V : Valuation τ sig (Elt F)) (s' : Phys nD τ sig (Elt F)) :
    iprop(held (SparseCore.T d) UB V ∗ SI s') ⊢ (⌜∀ b ∈ (UB : Finset (DevRef τ sig)), s'.mem.mem (d, b) = V b⌝ : sProp 𝕄) := by
  refine BIBase.Entails.trans ?_ (pure_forall (φ := fun b : DevRef τ sig => b ∈ (UB : Finset (DevRef τ sig)) → s'.mem.mem (d, b) = V b)).2
  refine forall_intro fun b => ?_
  by_cases hb : b ∈ (UB : Finset (DevRef τ sig))
  · iintro ⟨Hh, HSI⟩
    ihave Hb := (show held (SparseCore.T d) UB V ⊢ (((d, b) : Loc nD τ sig) ↦{fullShare} V b : sProp 𝕄) from bigSep_elim hb) $$ Hh
    ihave H := (SI_pointsTo_agree (st := s') (ℓ := ((d, b) : Loc nD τ sig)) (I := Finset.univ) (q := fullShare) (f := V b)) $$ [HSI Hb]
    · isplitl [HSI] <;> iassumption
    icases H with %h
    ipureintro; exact fun _ => funext fun i => h i (Finset.mem_univ i)
  · iintro -
    ipureintro; exact fun h => absurd h hb

/-- The final memory of one device: the last contents in every unscoped buffer. -/
def fq (d : Dev nD) (s' : Phys nD τ sig (Elt F)) : Prop := ∀ b ∈ (UB : Finset (DevRef τ sig)), s'.mem.mem (d, b) = C7 m d b

/-- At the end the memory holds what the last step left. -/
theorem hfin (d : Dev nD) (s' : Phys nD τ sig (Elt F)) : iprop(FIN m d ∗ SI s') ⊢ (⌜fq m d s'⌝ : sProp 𝕄) := held_agree d (C7 m d) s'

/-- Every unscoped buffer at its last contents, every semaphore at zero. -/
def QC : PUnit × MemSt nD τ sig (Elt F) → Prop := fun r => (∀ c : Dev nD, ∀ b ∈ (UB : Finset (DevRef τ sig)), r.2.mem (c, b) = C7 m c b) ∧ r.2.sem = fun _ => 0

/-- The program terminates on every schedule, without undefined behaviour, at the contents `C7`. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m facts hpre | 1 => tileObl1 m facts hpre)
    (fun q _ => SparseCore.Cfg.VecSplit.of_plain (vecSplit m q))
    m ρ main (fun d => G (F := F) d) (FIN m) (u₀ (F := F)) (sep_elim_left.trans (hu₀ m)) (hmain m ρ) (fq m) (hfin m) (QC m) (fun _ h hz => ⟨h, hz⟩)

/-! ## The precondition and the frame -/

/-- Every word of both index arrays, as the precondition computes it, is at least zero and below 1000 as a signed word,
    hence below 1000 as a natural number. -/
theorem ok_of_pre [Cert.Pre_in_vocabulary.Facts]
    (h : ∀ c : Dev nD, Cert.Pre_in_vocabulary.fn (F := F) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
        = fun _ => 1#1) : PreOK m := by
  have and1 (p q : Bool) : IntOp.andi (BitVec.ofBool p) (BitVec.ofBool q) = BitVec.ofBool (p && q) := by
    cases p <;> cases q <;> decide
  have is1 (p : Bool) : (BitVec.ofBool p = 1#1) ↔ p = true := by cases p <;> decide
  have words : ∀ v w : BitVec 32, IntOp.andi (IntOp.andi (IntOp.andi (IntOp.cmpi .sge v 0#32) (IntOp.cmpi .slt v 1000#32)) (IntOp.cmpi .sge w 0#32))
      (IntOp.cmpi .slt w 1000#32) = 1#1 → v.toNat < 1000 ∧ w.toNat < 1000 := by
    intro v w e
    simp only [IntOp.cmpi, and1, is1, Bool.and_eq_true, BitVec.sle_eq_decide, BitVec.slt_eq_decide,
      decide_eq_true_eq, BitVec.toInt_eq_toNat_cond, BitVec.toNat_ofNat, Nat.reducePow, Nat.reduceMod] at e
    omega
  intro d j
  have e := congrFun (h d) j
  simp only [Cert.Pre_in_vocabulary.fn, andi, cmpi, broadcastInDim, constantI] at e
  exact words _ _ e

/-- An unscoped buffer of the TensorCore ends at its last contents. -/
theorem end_at {r : PUnit × MemSt nD τ sig (Elt F)} (h : QC m r) (c : Dev nD) (b : Ref sig .tc) (hb : dv b ∈ (UB : Finset (DevRef τ sig))) :
    r.2.mem ((c : Thread nD τ).loc b) = C7 m c (dv b) := h.1 c (dv b) hb

/-- A buffer the program never writes ends as it began. -/
theorem end_kept {r : PUnit × MemSt nD τ sig (Elt F)} (h : QC m r) (c : Dev nD) (b : Ref sig .tc) (hb : dv b ∈ (UB : Finset (DevRef τ sig)))
    (hn : b ∉ [main_v0, main_v1, main_v2_0, main_v2_1, main_v3_0, main_v3_1, main_v4, main_v5, main_v6]) :
    r.2.mem ((c : Thread nD τ).loc b) = m ((c : Thread nD τ).loc b) := (end_at m h c b hb).trans (C7_kept m c b hn)

/-- From a launch memory whose indices are rows of the tables: the program ends with its result at `C7`, its six arguments
    unchanged and every semaphore at zero. -/
theorem run_args [∀ e, Nonempty (Elt F e)] (hpre : PreOK m) :
    θ_run (Cert.KernelIdeal.defs (F := F)) (Cert.KernelIdeal.threads (F := F)) ⟨m, fun _ => 0, ρ⟩ (fun r =>
      (∀ c : Dev nD, r.2.mem ((c : Thread nD τ).loc main_v6) = C7 m c (dv main_v6)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0) :=
  (θ_run Cert.KernelIdeal.defs _ _).mono (fun _ h => ⟨fun c => ⟨end_at m h c main_v6 (by decide),
    end_kept m h c main_arg0 (by decide) (by decide), end_kept m h c main_arg1 (by decide) (by decide), end_kept m h c main_arg2 (by decide) (by decide),
    end_kept m h c main_arg3 (by decide) (by decide), end_kept m h c main_arg4 (by decide) (by decide), end_kept m h c main_arg5 (by decide) (by decide)⟩, h.2⟩)
    (run_main m ρ hpre)

end Cert.KernelIdeal.Pf

end
-- ==== Proof.Ans.Pay.lean ====
/-
  The block product of either TensorCore call, read at an entry: sums of products over the extended reals.
-/
module

public import proofs.«01_k».proof.Proof.Gen.KernelIdeal.Skeleton
public import Idealize.ShloMosaic.Lib.Pointwise

@[expose] public section

noncomputable section

namespace Cert.KernelIdeal.Pf

open Cert.KernelIdeal Cert.KernelIdeal.Gen
open Idealize.ShloMosaic

/-- Entry `(v, r)` of a block of the first call's result: over the hidden units, the second layer's weight times the
    positive part of the first layer's sum over the embedding's coordinates. -/
theorem pay0_at (x0 x1 : Vec Ideal S1024x128 .f32) (w1 : Vec Ideal S2048x128 .bf16) (w2 : Vec Ideal S1000x2048 .bf16) (v : Fin 1000) (r : Fin 1024) :
    k2_pay1 x0 x1 w1 w2 (ix2 v r)
      = ∑ h : Fin 2048, (w2 (ix2 v h) : EReal) * max (∑ k : Fin 128, ((x0 (ix2 r k) : EReal) + x1 (ix2 r k)) * w1 (ix2 h k)) 0 := by
  pointwise [k2_pay1]

/-- The same of the second call's. -/
theorem pay1_at (x0 x1 : Vec Ideal S1024x128 .f32) (w1 : Vec Ideal S2048x128 .bf16) (w2 : Vec Ideal S1000x2048 .bf16) (v : Fin 1000) (r : Fin 1024) :
    k3_pay1 x0 x1 w1 w2 (ix2 v r)
      = ∑ h : Fin 2048, (w2 (ix2 v h) : EReal) * max (∑ k : Fin 128, ((x0 (ix2 r k) : EReal) + x1 (ix2 r k)) * w1 (ix2 h k)) 0 := by
  pointwise [k3_pay1]

end Cert.KernelIdeal.Pf

end
-- ==== Proof.Ans.Blocks.lean ====
/-
  What each TensorCore call leaves of its result array, entry by entry.
-/
module

public import proofs.«01_k».proof.Proof.KI.Region1
public import proofs.«01_k».proof.Proof.Ans.Pay
public import Idealize.ShloMosaic.Lib.Pipeline.ValueKit

@[expose] public section

noncomputable section

namespace Cert.KernelIdeal.Pf

open Cert.KernelIdeal Cert.KernelIdeal.Gen
open Idealize.ShloMosaic Idealize.ShloMosaic.TcCoe
open Idealize.ShloMosaic.Pipeline

/-- Where the blocks of the first call's windows lie at point `t`: rows `t` of the two gathered arrays, the weights whole,
    columns `t` of the result. -/
theorem place0 : ∀ t : Fin cfg2.N, (cfg2.win 0).index t = ![t.val, 0] ∧ (cfg2.win 1).index t = ![t.val, 0] ∧ (cfg2.win 2).index t = ![0, 0]
    ∧ (cfg2.win 3).index t = ![0, 0] ∧ (cfg2.win 4).index t = ![0, t.val] := by decide +kernel

/-- The same of the second call's, whose result columns start four blocks on. -/
theorem place1 : ∀ t : Fin cfg3.N, (cfg3.win 0).index t = ![t.val, 0] ∧ (cfg3.win 1).index t = ![t.val, 0] ∧ (cfg3.win 2).index t = ![0, 0]
    ∧ (cfg3.win 3).index t = ![0, 0] ∧ (cfg3.win 4).index t = ![0, t.val + 4] := by decide +kernel

/-- One entry of the two layers' product from row `r` of two arrays `x`, `y` of `n` rows. -/
def entry {n : ℕ} (x y : Shape.Idx ⟨2, ![n, 128]⟩ → EReal) (w1 : S2048x128.Idx → EReal) (w2 : S1000x2048.Idx → EReal) (v : Fin 1000) (r : Fin n) : EReal :=
  ∑ h : Fin 2048, w2 (ix2 v h) * max (∑ k : Fin 128, (x (ix2 r k) + y (ix2 r k)) * w1 (ix2 h k)) 0

/-- Row `r` of the first gathered array's block at point `t` is row `1024 t + r` of it. -/
theorem rows0_x (V : Vals Ideal) (d : Dev nD) (t : Fin cfg2.N) (r : Fin 1024) (k : Fin 128) (n : Fin 4096) (hn : n.val = t.val * 1024 + r.val) :
    blk0 V d 0 t (ix2 r k) = V d main_v2_0 (ix2 n k) := by
  obtain ⟨i0, -⟩ := place0 t
  blk_ext [blk0, i0, hn]

/-- The same of the second. -/
theorem rows0_y (V : Vals Ideal) (d : Dev nD) (t : Fin cfg2.N) (r : Fin 1024) (k : Fin 128) (n : Fin 4096) (hn : n.val = t.val * 1024 + r.val) :
    blk0 V d 1 t (ix2 r k) = V d main_v2_1 (ix2 n k) := by
  obtain ⟨-, i1, -⟩ := place0 t
  blk_ext [blk0, i1, hn]

/-- The first layer's weights reach every point whole. -/
theorem first0 (V : Vals Ideal) (d : Dev nD) (t : Fin cfg2.N) (h : Fin 2048) (k : Fin 128) :
    blk0 V d 2 t (ix2 h k) = V d main_v0 (ix2 h k) := by
  obtain ⟨-, -, i2, -⟩ := place0 t
  blk_ext [blk0, i2]

/-- So do the second layer's. -/
theorem second0 (V : Vals Ideal) (d : Dev nD) (t : Fin cfg2.N) (v : Fin 1000) (h : Fin 2048) :
    blk0 V d 3 t (ix2 v h) = V d main_v1 (ix2 v h) := by
  obtain ⟨-, -, -, i3, -⟩ := place0 t
  blk_ext [blk0, i3]

/-- Entry `(v, r)` of the result block of point `t` is the entry of row `1024 t + r`. -/
theorem block0 (V : Vals Ideal) (d : Dev nD) (t : Fin cfg2.N) (v : Fin 1000) (r : Fin 1024) (n : Fin 4096) (hn : n.val = t.val * 1024 + r.val) :
    k2_pay1 (blk0 V d 0 t) (blk0 V d 1 t) (blk0 V d 2 t) (blk0 V d 3 t) (ix2 v r)
      = entry (n := 4096) (V d main_v2_0) (V d main_v2_1) (V d main_v0) (V d main_v1) v n := by
  rw [pay0_at]
  unfold entry
  refine Finset.sum_congr rfl fun h _ => ?_
  rw [second0]
  refine congrArg (fun e : EReal => (show EReal from V d main_v1 (ix2 v h)) * max e 0) (Finset.sum_congr rfl fun k _ => ?_)
  rw [rows0_x V d t r k n hn, rows0_y V d t r k n hn, first0]

/-- The first call leaves in its first 4096 columns the entries of the rows of its operands, the rest as it found it. -/
theorem result0_at (V : Vals Ideal) (d : Dev nD) (v : Fin 1000) (j : Fin 16384) :
    result0 V d (ix2 v j) = if j.val < 4096 then
        entry (n := 4096) (V d main_v2_0) (V d main_v2_1) (V d main_v0) (V d main_v1) v ⟨j.val % 4096, Nat.mod_lt _ (by decide)⟩
      else V d main_v4 (ix2 v j) := by
  refine (dat0 V d).arrAt_apply_of_coversWhere 4
    (G := fun i => entry (n := 4096) (V d main_v2_0) (V d main_v2_1) (V d main_v0) (V d main_v1) (i 0) ⟨(i 1).val % 4096, Nat.mod_lt _ (by decide)⟩)
    (P := fun i => (i 1).val < 4096) (fun β => β (1 : Fin 2) < 4) (by decide +kernel) (fun t hf y => ?_) (fun i => by blk_simp [Pipeline.Window.cell_apply]; omega) (ix2 v j)
  obtain ⟨-, -, -, -, i4⟩ := place0 t
  have b0 : (y 0).val < 1000 := (y 0).isLt
  have b1 : (y 1).val < 1024 := (y 1).isLt
  have ht : t.val < 4 := t.isLt
  have hy : (cfg2.win 4).xinj (cfg2.grid.coords t) y = ix2 (⟨(y 0).val, b0⟩ : Fin 1000) (⟨(y 1).val, b1⟩ : Fin 1024) := by
    blk_ext [i4]
  have e0 : (((cfg2.win 4).blk t).view.emb y) 0 = (⟨(y 0).val, b0⟩ : Fin 1000) := by
    apply Fin.ext; blk_simp [i4]
  have e1 : ((((cfg2.win 4).blk t).view.emb y) 1).val = t.val * 1024 + (y 1).val := by
    blk_simp [i4]
  have hb := block0 V d t ⟨(y 0).val, b0⟩ ⟨(y 1).val, b1⟩ ⟨t.val * 1024 + (y 1).val, by omega⟩ rfl
  rw [hy]
  refine Eq.trans hb ?_
  show entry _ _ _ _ _ _ = entry _ _ _ _ _ _
  rw [e0]
  refine congrArg _ (Fin.ext ?_)
  show _ = _ % 4096
  rw [e1]
  exact (Nat.mod_eq_of_lt (by omega)).symm

/-- A column less the 4096 of the first call is a row of the second call's operands. -/
theorem after_first (j : Fin 16384) : j.val - 4096 < 12288 := by omega

/-- Row `r` of the first gathered array's block in the second call at point `t` is row `1024 t + r` of it. -/
theorem rows1_x (V : Vals Ideal) (d : Dev nD) (t : Fin cfg3.N) (r : Fin 1024) (k : Fin 128) (n : Fin 12288) (hn : n.val = t.val * 1024 + r.val) :
    blk1 V d 0 t (ix2 r k) = V d main_v3_0 (ix2 n k) := by
  obtain ⟨i0, -⟩ := place1 t
  blk_ext [blk1, i0, hn]

/-- The same of the second. -/
theorem rows1_y (V : Vals Ideal) (d : Dev nD) (t : Fin cfg3.N) (r : Fin 1024) (k : Fin 128) (n : Fin 12288) (hn : n.val = t.val * 1024 + r.val) :
    blk1 V d 1 t (ix2 r k) = V d main_v3_1 (ix2 n k) := by
  obtain ⟨-, i1, -⟩ := place1 t
  blk_ext [blk1, i1, hn]

/-- There too the first layer's weights reach every point whole. -/
theorem first1 (V : Vals Ideal) (d : Dev nD) (t : Fin cfg3.N) (h : Fin 2048) (k : Fin 128) :
    blk1 V d 2 t (ix2 h k) = V d main_v0 (ix2 h k) := by
  obtain ⟨-, -, i2, -⟩ := place1 t
  blk_ext [blk1, i2]

/-- So do the second layer's. -/
theorem second1 (V : Vals Ideal) (d : Dev nD) (t : Fin cfg3.N) (v : Fin 1000) (h : Fin 2048) :
    blk1 V d 3 t (ix2 v h) = V d main_v1 (ix2 v h) := by
  obtain ⟨-, -, -, i3, -⟩ := place1 t
  blk_ext [blk1, i3]

/-- Entry `(v, r)` of the second call's result block of point `t` is the entry of row `1024 t + r`. -/
theorem block1 (V : Vals Ideal) (d : Dev nD) (t : Fin cfg3.N) (v : Fin 1000) (r : Fin 1024) (n : Fin 12288) (hn : n.val = t.val * 1024 + r.val) :
    k3_pay1 (blk1 V d 0 t) (blk1 V d 1 t) (blk1 V d 2 t) (blk1 V d 3 t) (ix2 v r)
      = entry (n := 12288) (V d main_v3_0) (V d main_v3_1) (V d main_v0) (V d main_v1) v n := by
  rw [pay1_at]
  unfold entry
  refine Finset.sum_congr rfl fun h _ => ?_
  rw [second1]
  refine congrArg (fun e : EReal => (show EReal from V d main_v1 (ix2 v h)) * max e 0) (Finset.sum_congr rfl fun k _ => ?_)
  rw [rows1_x V d t r k n hn, rows1_y V d t r k n hn, first1]

/-- The second call leaves in the columns from 4096 on the entries of the rows of its operands, the rest as it found it. -/
theorem result1_at (V : Vals Ideal) (d : Dev nD) (v : Fin 1000) (j : Fin 16384) :
    result1 V d (ix2 v j) = if 4096 ≤ j.val then
        entry (n := 12288) (V d main_v3_0) (V d main_v3_1) (V d main_v0) (V d main_v1) v ⟨j.val - 4096, by omega⟩
      else V d main_v5 (ix2 v j) := by
  refine (dat1 V d).arrAt_apply_of_coversWhere 4
    (G := fun i => entry (n := 12288) (V d main_v3_0) (V d main_v3_1) (V d main_v0) (V d main_v1) (i 0) ⟨(i 1).val - 4096, after_first (i 1)⟩)
    (P := fun i => 4096 ≤ (i 1).val) (fun β => 4 ≤ β (1 : Fin 2)) (by decide +kernel) (fun t hf y => ?_) (fun i => by blk_simp [Pipeline.Window.cell_apply]; omega) (ix2 v j)
  obtain ⟨-, -, -, -, i4⟩ := place1 t
  have b0 : (y 0).val < 1000 := (y 0).isLt
  have b1 : (y 1).val < 1024 := (y 1).isLt
  have ht : t.val < 12 := t.isLt
  have hy : (cfg3.win 4).xinj (cfg3.grid.coords t) y = ix2 (⟨(y 0).val, b0⟩ : Fin 1000) (⟨(y 1).val, b1⟩ : Fin 1024) := by
    blk_ext [i4]
  have e0 : (((cfg3.win 4).blk t).view.emb y) 0 = (⟨(y 0).val, b0⟩ : Fin 1000) := by
    apply Fin.ext; blk_simp [i4]
  have e1 : ((((cfg3.win 4).blk t).view.emb y) 1).val = (t.val + 4) * 1024 + (y 1).val := by
    blk_simp [i4]
  have hb := block1 V d t ⟨(y 0).val, b0⟩ ⟨(y 1).val, b1⟩ ⟨t.val * 1024 + (y 1).val, by omega⟩ rfl
  rw [hy]
  refine Eq.trans hb ?_
  show entry _ _ _ _ _ _ = entry _ _ _ _ _ _
  rw [e0]
  refine congrArg _ (Fin.ext ?_)
  show _ = _ - 4096
  rw [e1]
  show t.val * 1024 + (y 1).val = _
  omega

end Cert.KernelIdeal.Pf

end
-- ==== Proof.Ans.Meaning.lean ====
/-
  The mathematics both programs compute: two rows looked up and added, a layer with positive parts, a second layer.
-/
module

public import proofs.«01_k».proof.Proof.KI.Setup
public import Idealize.ShloMosaic.Lib.Pointwise

@[expose] public section

noncomputable section

namespace Cert.KernelIdeal.Pf

open Cert.KernelIdeal Cert.KernelIdeal.Gen
open Idealize.ShloMosaic

/-- An element of a table, its index written either way. -/
theorem cell_ix2 {α : Type} (f : S1000x128.Idx → α) (r : Fin 1000) (k : Fin 128) : f (ix2 r k) = cell f r k :=
  congrArg f (funext fun i => match i with | ⟨0, _⟩ => rfl | ⟨1, _⟩ => rfl)

/-- A word of a list, its index written either way. -/
theorem word_ix1 (f : S16384.Idx → BitVec 32) (j : Fin 16384) : f (ix1 j) = word f j :=
  congrArg f (funext fun i => match i with | ⟨0, _⟩ => rfl)

/-- The score of entry `v` of the vocabulary for position `j`. -/
def score (a b : S16384.Idx → BitVec 32) (ea eb : S1000x128.Idx → EReal) (w1 : S2048x128.Idx → EReal) (w2 : S1000x2048.Idx → EReal)
    (j : Fin 16384) (v : Fin 1000) : EReal :=
  ∑ h : Fin 2048, w2 (ix2 v h) * max (∑ k : Fin 128, (cell ea (rowOf (word a j)) k + cell eb (rowOf (word b j)) k) * w1 (ix2 h k)) 0

end Cert.KernelIdeal.Pf

end
-- ==== Proof.Ans.Value.lean ====
/-
  The kernel's result, entry by entry: the score.
-/
module

public import proofs.«01_k».proof.Proof.KI.Chain
public import proofs.«01_k».proof.Proof.Ans.Blocks
public import proofs.«01_k».proof.Proof.Ans.Meaning

@[expose] public section

noncomputable section

namespace Cert.KernelIdeal.Pf

open Cert.KernelIdeal Cert.KernelIdeal.Gen
open Idealize.ShloMosaic Idealize.ShloMosaic.TcCoe

variable (m : (ℓ : Loc nD τ sig) → Buf (Elt Ideal) ℓ)

/-- The first layer's weights, narrowed, are the weights. -/
theorem C1_first (d : Dev nD) (h : Fin 2048) (k : Fin 128) :
    C1 m d (dv main_v0) (ix2 h k) = m ((d : Thread nD τ).loc main_arg4) (ix2 h k) := by
  have e : C1 m d (dv main_v0) = (opA (F := Ideal)).result (C0 m d) (dv main_v0) := StableHlo.unary_result_ne _ _ _ _ _ _ (by decide)
  rw [e, show (opA (F := Ideal)).result (C0 m d) (dv main_v0) = _ from StableHlo.unary_result _ _ _ _ _ _]
  rfl

/-- So are the second layer's. -/
theorem C1_second (d : Dev nD) (v : Fin 1000) (h : Fin 2048) :
    C1 m d (dv main_v1) (ix2 v h) = m ((d : Thread nD τ).loc main_arg5) (ix2 v h) := by
  rw [show C1 m d (dv main_v1) = _ from StableHlo.unary_result _ _ _ _ _ _,
    show (opA (F := Ideal)).result (C0 m d) (dv main_arg5) = C0 m d (dv main_arg5) from StableHlo.unary_result_ne _ _ _ _ _ _ (by decide)]
  rfl

/-- The first layer's narrowed weights are untouched by the SparseCore calls. -/
theorem C3_first (d : Dev nD) : C3 m d (dv main_v0) = C1 m d (dv main_v0) :=
  (C3_ne m d _ (dv_ne (by decide)) (dv_ne (by decide))).trans (C2_ne m d _ (dv_ne (by decide)) (dv_ne (by decide)))
/-- So are the second layer's. -/
theorem C3_second (d : Dev nD) : C3 m d (dv main_v1) = C1 m d (dv main_v1) :=
  (C3_ne m d _ (dv_ne (by decide)) (dv_ne (by decide))).trans (C2_ne m d _ (dv_ne (by decide)) (dv_ne (by decide)))
/-- A buffer neither TensorCore call writes holds before the second call what it held before the first. -/
theorem C5_C3 (d : Dev nD) (b : Ref sig .tc) (h4 : b ≠ main_v4) (h5 : b ≠ main_v5) : C5 m d (dv b) = C3 m d (dv b) :=
  (C5_ne m d b h5).trans (C4_ne m d b h4)

/-- An entry from rows looked up: the score of the position the row stands for. -/
theorem entry_score (d : Dev nD) (n o : ℕ) (hno : n + o ≤ 16384) (x y : Shape.Idx ⟨2, ![n, 128]⟩ → EReal) (w1 : S2048x128.Idx → EReal) (w2 : S1000x2048.Idx → EReal)
    (hx : x = picked n o hno (m (aLoc d)) (m (eaLoc d))) (hy : y = picked n o hno (m (bLoc d)) (m (ebLoc d)))
    (h1 : ∀ h k, w1 (ix2 h k) = m ((d : Thread nD τ).loc main_arg4) (ix2 h k)) (h2 : ∀ v h, w2 (ix2 v h) = m ((d : Thread nD τ).loc main_arg5) (ix2 v h))
    (v : Fin 1000) (r : Fin n) (j : Fin 16384) (hj : j.val = r.val + o) :
    entry x y w1 w2 v r = score (m (aLoc d)) (m (bLoc d)) (m (eaLoc d)) (m (ebLoc d)) (m ((d : Thread nD τ).loc main_arg4)) (m ((d : Thread nD τ).loc main_arg5)) j v := by
  have hlt : r.val + o < 16384 := hj ▸ j.isLt
  obtain rfl : j = ⟨r.val + o, hlt⟩ := Fin.ext hj
  subst hx hy
  unfold entry score
  simp only [h1, h2]
  rfl

/-- What the copied first result and the second call's filling hold together. -/
theorem C6_at (d : Dev nD) (v : Fin 1000) (j : Fin 16384) :
    C6 m d (dv main_v5) (ix2 v j)
      = score (m (aLoc d)) (m (bLoc d)) (m (eaLoc d)) (m (ebLoc d)) (m ((d : Thread nD τ).loc main_arg4)) (m ((d : Thread nD τ).loc main_arg5)) j v := by
  have e6 : C6 m d (dv main_v5) = result1 (fun c b => C5 m c (dv b)) d := Function.update_self _ _ _
  have e5 : C5 m d (dv main_v5) = result0 (fun c b => C3 m c (dv b)) d :=
    (StableHlo.unary_result _ _ _ _ _ _).trans (show C4 m d (dv main_v4) = _ from Function.update_self _ _ _)
  rw [e6, result1_at]
  split
  · next h =>
    refine entry_score m d 12288 4096 (by decide) _ _ _ _ ?_ ?_ (fun h k => ?_) (fun v h => ?_) v _ j (by show j.val = j.val - 4096 + 4096; omega)
    · show C5 m d (dv main_v3_0) = _
      rw [C5_C3 m d _ (by decide) (by decide), C3_q0]; rfl
    · show C5 m d (dv main_v3_1) = _
      rw [C5_C3 m d _ (by decide) (by decide), C3_q1]; rfl
    · show C5 m d (dv main_v0) _ = _
      rw [C5_C3 m d _ (by decide) (by decide), C3_first, C1_first]
    · show C5 m d (dv main_v1) _ = _
      rw [C5_C3 m d _ (by decide) (by decide), C3_second, C1_second]
  · next h =>
    show C5 m d (dv main_v5) _ = _
    rw [e5, result0_at, if_pos (by omega)]
    refine entry_score m d 4096 0 (by decide) _ _ _ _ ?_ ?_ (fun h k => ?_) (fun v h => ?_) v _ j (by show j.val = j.val % 4096 + 0; omega)
    · show C3 m d (dv main_v2_0) = _
      rw [C3_ne m d _ (dv_ne (by decide)) (dv_ne (by decide)), C2_p0]; rfl
    · show C3 m d (dv main_v2_1) = _
      rw [C3_ne m d _ (dv_ne (by decide)) (dv_ne (by decide)), C2_p1]; rfl
    · show C3 m d (dv main_v0) _ = _
      rw [C3_first, C1_first]
    · show C3 m d (dv main_v1) _ = _
      rw [C3_second, C1_second]

/-- The kernel's result at position `j` and entry `v` of the vocabulary is its score. -/
theorem kernel_at (d : Dev nD) (j : Fin 16384) (v : Fin 1000) :
    C7 m d (dv main_v6) (ix2 j v)
      = score (m (aLoc d)) (m (bLoc d)) (m (eaLoc d)) (m (ebLoc d)) (m ((d : Thread nD τ).loc main_arg4)) (m ((d : Thread nD τ).loc main_arg5)) j v := by
  rw [← C6_at, show C7 m d (dv main_v6) = _ from StableHlo.unary_result _ _ _ _ _ _]
  generalize C6 m d (dv main_v5) = x
  show transpose S16384x1000 [1, 0] x transposes_S1000x16384_S16384x1000_1_0 (ix2 j v) = x (ix2 v j)
  pointwise

end Cert.KernelIdeal.Pf

end
-- ==== Proof.Ans.Ref.lean ====
/-
  The reference's result, entry by entry: the same score.
-/
module

public import proofs.«01_k».proof.Proof.Ans.Meaning
public import proofs.«01_k».proof.Proof.Gen.ReferenceIdeal.Run
public import Idealize.ShloMosaic.Lib.Pointwise
public import Idealize.ShloMosaic.Lib.Routing.Ops
public import Idealize.ShloMosaic.Lib.Routing.OpsPair
public import Idealize.ShloMosaic.Lib.ReduceAll

@[expose] public section

set_option maxRecDepth 16384

noncomputable section

namespace Cert.ReferenceIdeal.Pf

open Cert.ReferenceIdeal Cert.ReferenceIdeal.Gen
open Idealize.ShloMosaic
open Cert.KernelIdeal.Pf (word rowOf cell score cell_ix2 word_ix1)

/-- The column of row numbers the reference looks up: a list's words, a thousand added to the negative ones. -/
abbrev column (a : IVec S16384 32) : IVec S16384x1 32 :=
  broadcastInDim S16384x1 ![0] bcast_S16384_S16384x1_0
    (select (cmpi .slt a (broadcastInDim S16384 ![] bcast_S_S16384 (constantI S_ 32 0#32)))
      (addi a (broadcastInDim S16384 ![] bcast_S_S16384 (constantI S_ 32 1000#32))) a)

/-- Whether each of them names a row of the table. -/
abbrev inside (a : IVec S16384 32) : IVec S16384x1 1 :=
  andi (cmpi .sge (column a) (broadcastInDim S16384x1 ![] bcast_S_S16384x1 (constantI S_ 32 0#32)))
    (cmpi .sle (column a) (broadcastInDim S16384x1 ![0, 1] bcast_S1x1_S16384x1_0_1 (broadcastInDim S1x1 ![1] bcast_S1_S1x1_1 (constantI S1 32 999#32))))

/-- The rows looked up, a fixed value standing where a number names none. -/
abbrev looked (a : IVec S16384 32) (e : Vec Ideal S1000x128 .f32) : Vec Ideal S16384x128 .f32 :=
  select (broadcastInDim S16384x128 ![0] bcast_S16384_S16384x128_0
      (Host.reduce IntOp.andi (inside a) (constantI S_ 1 1#1) reducesTo_S16384x1_S16384_d1 h_S_))
    (Host.gather gather_S1000x128_S16384x1_S16384x128_1_0_n_n_0_1_1128 e (column a))
    (broadcastInDim S16384x128 ![] bcast_S_S16384x128 (constant (F := Ideal) S_ .f32 0x7FC00000#32))

/-- A number below a thousand is looked up as it stands. -/
theorem column_at (a : IVec S16384 32) (j : Fin 16384) (z : Fin 1) (h : (word a j).toNat < 1000) : column a (ix2 j z) = word a j := by
  have e : column a (ix2 j z) = Scalar.select (IntOp.cmpi .slt (a (ix1 j)) 0#32) (IntOp.addi (a (ix1 j)) 1000#32) (a (ix1 j)) := by
    pointwise
  rw [e, word_ix1 a j]
  exact Routing.wrap_of_lt _ _ (by omega)

/-- Numbers below a thousand all name rows. -/
theorem inside_at (a : IVec S16384 32) (h : ∀ j, (word a j).toNat < 1000) (i : S16384x1.Idx) : inside a i = 1#1 := by
  obtain ⟨j, z, rfl⟩ : ∃ (j : Fin 16384) (z : Fin 1), i = ix2 j z := ⟨i 0, i 1, eq_ix2 i⟩
  have e : inside a (ix2 j z) = IntOp.andi (IntOp.cmpi .sge (column a (ix2 j z)) 0#32) (IntOp.cmpi .sle (column a (ix2 j z)) 999#32) := by
    pointwise
  have hw := h j
  rw [e, column_at a _ _ hw]
  generalize word a j = w at hw
  have h0 : IntOp.cmpi .sge w 0#32 = 1#1 := by
    simp only [IntOp.cmpi, BitVec.sle_eq_decide, BitVec.toInt_eq_toNat_cond, BitVec.toNat_ofNat, Nat.reducePow, Nat.reduceMod]
    rw [decide_eq_true (by omega)]; rfl
  have h1 : IntOp.cmpi .sle w 999#32 = 1#1 := by
    simp only [IntOp.cmpi, BitVec.sle_eq_decide, BitVec.toInt_eq_toNat_cond, BitVec.toNat_ofNat, Nat.reducePow, Nat.reduceMod]
    rw [decide_eq_true (by omega)]; rfl
  rw [h0, h1]; rfl

/-- A choice by rows, at an entry. -/
theorem choice_at (p : IVec S16384 1) (x : Vec Ideal S16384x128 .f32) (j : Fin 16384) (k : Fin 128) :
    select (broadcastInDim S16384x128 ![0] bcast_S16384_S16384x128_0 p) x (broadcastInDim S16384x128 ![] bcast_S_S16384x128 (constant (F := Ideal) S_ .f32 0x7FC00000#32)) (ix2 j k)
      = Scalar.select (p (ix1 j)) (x (ix2 j k)) (Ideal.ofBits .f32 0x7FC00000#32) := by
  pointwise

/-- Row `j` looked up is the row the `j`th number names. -/
theorem looked_at (a : IVec S16384 32) (e : Vec Ideal S1000x128 .f32) (h : ∀ j, (word a j).toNat < 1000) (j : Fin 16384) (k : Fin 128) :
    looked a e (ix2 j k) = cell e (rowOf (word a j)) k := by
  unfold looked
  rw [choice_at, Host.reduce_andi_one (inside a) _ _ _ _ rfl (inside_at a h)]
  show Host.gather _ e (column a) (ix2 j k) = _
  rw [← cell_ix2, ix2_eq_valueIdx, ix2_eq_valueIdx]
  refine Routing.gather_row _ rfl rfl rfl rfl rfl e (column a) j k (rowOf (word a j)) ?_ (by decide)
  rw [← ix2_eq_valueIdx, column_at a j 0 (h j)]
  have := h j
  apply BitVec.eq_of_toNat_eq
  show _ = (BitVec.ofNat 32 ((word a j).toNat % 1000)).toNat
  rw [BitVec.toNat_ofNat]
  omega

/-- The two layers over rows `x` and `y`. -/
abbrev layers (x y : FVec Ideal S16384x128 .f32) (w1 : FVec Ideal S2048x128 .f32) (w2 : FVec Ideal S1000x2048 .f32) : FVec Ideal S16384x1000 .f32 :=
  Host.dotGeneral (F := Ideal) (φ₁ := .f32) (φ₂ := .f32) dot_S16384x2048_S2048x1000_S16384x1000_1_0_0_1_n_n none
    (maximumf (Host.dotGeneral (F := Ideal) (φ₁ := .f32) (φ₂ := .f32) dot_S16384x128_S128x2048_S16384x2048_1_0_0_1_n_n none (addf (F := Ideal) (φ := .f32) x y)
        (transpose S128x2048 [1, 0] w1 transposes_S2048x128_S128x2048_1_0))
      (broadcastInDim S16384x2048 ![] bcast_S_S16384x2048 (constant (F := Ideal) S_ .f32 0x00000000#32)))
    (transpose S2048x1000 [1, 0] w2 transposes_S1000x2048_S2048x1000_1_0)

/-- Them at an entry. -/
theorem layers_at (x y : FVec Ideal S16384x128 .f32) (w1 : FVec Ideal S2048x128 .f32) (w2 : FVec Ideal S1000x2048 .f32) (j : Fin 16384) (v : Fin 1000) :
    layers x y w1 w2 (ix2 j v)
    = ∑ h : Fin 2048, max (∑ k : Fin 128, ((x (ix2 j k) : EReal) + y (ix2 j k)) * w1 (ix2 h k)) 0 * (w2 (ix2 v h) : EReal) := by
  pointwise

/-- The reference's result at position `j` and entry `v` of the vocabulary is its score. -/
theorem reference_at (a b : IVec S16384 32) (ea eb : Vec Ideal S1000x128 .f32) (w1 : FVec Ideal S2048x128 .f32) (w2 : FVec Ideal S1000x2048 .f32)
    (ha : ∀ j, (word a j).toNat < 1000) (hb : ∀ j, (word b j).toNat < 1000) (j : Fin 16384) (v : Fin 1000) :
    layers (looked a ea) (looked b eb) w1 w2 (ix2 j v) = score a b ea eb w1 w2 j v := by
  rw [layers_at]
  unfold score
  refine Finset.sum_congr rfl fun h _ => ?_
  rw [mul_comm]
  simp only [looked_at a ea ha, looked_at b eb hb]

end Cert.ReferenceIdeal.Pf

end
-- ==== Proof.lean ====
module

public import proofs.«01_k».proof.Defs
public import proofs.«01_k».proof.Proof.K.Main
public import proofs.«01_k».proof.Proof.KI.Main
public import proofs.«01_k».proof.Proof.Ans.Value
public import proofs.«01_k».proof.Proof.Ans.Ref
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_vocabulary
public import Idealize.ShloMosaic.Lib.Quiescent

@[expose] public section

noncomputable section

namespace Cert.Proof

open Idealize.ShloMosaic Idealize.ShloMosaic.TcCoe Idealize.SL.Sem

/-- The kernel ends, its arguments as they were and every counter at zero. -/
theorem kernel_ends : quiescent_Kernel :=
  fun m g h => (θ_run Cert.Kernel.defs _ _).mono (fun _ r => ⟨fun c => (r.1 c).2, r.2⟩) (Cert.Kernel.Pf.run_args m g (Cert.Kernel.Pf.ok_of_pre m h))

/-- So does its idealization. -/
theorem ideal_ends : quiescent_KernelIdeal :=
  fun m g h => (θ_run Cert.KernelIdeal.defs _ _).mono (fun _ r => ⟨fun c => (r.1 c).2, r.2⟩) (Cert.KernelIdeal.Pf.run_args m g (Cert.KernelIdeal.Pf.ok_of_pre m h))

/-- And the reference, from any memory. -/
theorem reference_ends : quiescent_ReferenceIdeal :=
  fun m g _ => (θ_run Cert.ReferenceIdeal.defs _ _).mono (fun r h => ⟨fun c => (h c).2, sem_eq_zero_of_no_sems (by decide) r.2⟩) (Cert.ReferenceIdeal.Value.run m g)

/-- From equal arguments, whose indices name rows, the two results are equal. -/
theorem results_agree : algebraic_KernelIdeal_ReferenceIdeal := by
  intro m g m' g' hpre same
  have ok := Cert.KernelIdeal.Pf.ok_of_pre m hpre
  refine ⟨fun c => Cert.KernelIdeal.Pf.C7 m c (Cert.KernelIdeal.Pf.dv Cert.KernelIdeal.main_v6),
    (θ_run Cert.KernelIdeal.defs _ _).mono (fun _ r => r.1) (Cert.KernelIdeal.Pf.run_args m g ok),
    (θ_run Cert.ReferenceIdeal.defs _ _).mono (fun r h c => ⟨(h c).1.trans ?_, (h c).2⟩) (Cert.ReferenceIdeal.Value.run m' g')⟩
  obtain ⟨e0, e1, e2, e3, e4, e5⟩ := same c
  rw [e0, e1, e2, e3, e4, e5]
  funext i
  obtain ⟨j, v, rfl⟩ : ∃ (j : Fin 16384) (v : Fin 1000), i = ix2 j v := ⟨i 0, i 1, eq_ix2 i⟩
  refine (Cert.ReferenceIdeal.Pf.reference_at _ _ _ _ _ _ (fun j => (ok c _).1) (fun j => (ok c _).2) j v).trans
    (Cert.KernelIdeal.Pf.kernel_at m c j v).symm

theorem claim : Cert.Claim := ⟨Cert.Kernel.Gen.facts, Cert.KernelIdeal.Gen.facts, Cert.ReferenceIdeal.Gen.facts, Cert.Pre_in_vocabulary.Gen.facts,
  kernel_ends, ideal_ends, reference_ends, fun m g _ => reference_ends m g trivial, trivial, results_agree⟩

end Cert.Proof

end
